-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x320000 : Shape := ⟨2, ![2, 320000]⟩
abbrev S320000x16 : Shape := ⟨2, ![320000, 16]⟩
abbrev S1x16 : Shape := ⟨2, ![1, 16]⟩
abbrev S10000 : Shape := ⟨1, ![10000]⟩
abbrev S144x256 : Shape := ⟨2, ![144, 256]⟩
abbrev S256 : Shape := ⟨1, ![256]⟩
abbrev S256x128 : Shape := ⟨2, ![256, 128]⟩
abbrev S128 : Shape := ⟨1, ![128]⟩
abbrev S256x256 : Shape := ⟨2, ![256, 256]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S320000x16 : S_.BroadcastsInDim S320000x16 (![] : Fin 0 → Fin S320000x16.rank)
  reducesTo_S320000x16_S_d0_1 : S320000x16.ReducesTo [0, 1] S_
  bcast_S_S144x256 : S_.BroadcastsInDim S144x256 (![] : Fin 0 → Fin S144x256.rank)
  reducesTo_S144x256_S_d0_1 : S144x256.ReducesTo [0, 1] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_arg9 : FVec F S144x256 .f32) (main_arg11 : FVec F S256x128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S144x256 .f32 := Host.absf main_arg9
  let main_cst_6 : FVec F S_ .f32 := constant S_ .f32 0x7F800000#32
  let main_v20 : FVec F S144x256 .f32 := broadcastInDim S144x256 ![] bcast_S_S144x256 main_cst_6
  let main_v21 : IVec S144x256 1 := cmpf .olt main_v19 main_v20
  let main_c_7 : IVec S_ 1 := constantI S_ 1 1#1
  let main_v22 : IVec S_ 1 := (fun x v => Host.reduce IntOp.andi x v reducesTo_S144x256_S_d0_1 h_S_) main_v21 main_c_7
  let main_v23 : IVec S_ 1 := andi main_v18 main_v22
  let main_v24 : FVec F S256x128 .f32 := Host.absf main_arg11
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  main_v28

def fn {F : FTy → Type} [FloatOps F] (main_arg0 : FVec F S10000x128 .f32) (main_arg1 : IVec S2x320000 32) (main_arg2 : FVec F S320000x16 .f32) (main_arg3 : FVec F S1x16 .f32) (main_arg4 : IVec S10000 32) (main_arg5 : FVec F S144x256 .f32) (main_arg6 : FVec F S256 .f32) (main_arg7 : FVec F S256x128 .f32) (main_arg8 : FVec F S128 .f32) (main_arg9 : FVec F S144x256 .f32) (main_arg10 : FVec F S256 .f32) (main_arg11 : FVec F S256x128 .f32) (main_arg12 : FVec F S128 .f32) (main_arg13 : FVec F S256x256 .f32) (main_arg14 : FVec F S256 .f32) (main_arg15 : FVec F S256x128 .f32) (main_arg16 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S320000x16 .f32 := Host.absf main_arg2
  let main_cst_0 : FVec F S_ .f32 := constant S_ .f32 0x7F800000#32
  let main_v5 : FVec F S320000x16 .f32 := broadcastInDim S320000x16 ![] bcast_S_S320000x16 main_cst_0
  let main_v6 : IVec S320000x16 1 := cmpf .olt main_v4 main_v5
  let main_c_1 : IVec S_ 1 := constantI S_ 1 1#1
  let main_v7 : IVec S_ 1 := (fun x v => Host.reduce IntOp.andi x v reducesTo_S320000x16_S_d0_1 h_S_) main_v6 main_c_1
  let main_v8 : IVec S_ 1 := andi main_v3 main_v7
  let main_v9 : FVec F S144x256 .f32 := Host.absf main_arg5
  let main_cst_2 : FVec F S_ .f32 := constant S_ .f32 0x7F800000#32
  let main_v10 : FVec F S144x256 .f32 := broadcastInDim S144x256 ![] bcast_S_S144x256 main_cst_2
  let main_v11 : IVec S144x256 1 := cmpf .olt main_v9 main_v10
  let main_c_3 : IVec S_ 1 := constantI S_ 1 1#1
  let main_v12 : IVec S_ 1 := (fun x v => Host.reduce IntOp.andi x v reducesTo_S144x256_S_d0_1 h_S_) main_v11 main_c_3
  let main_v13 : IVec S_ 1 := andi main_v8 main_v12
  let main_v14 : FVec F S256x128 .f32 := Host.absf main_arg7
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg9 main_arg11 main_v13 main_v16
-- ==== Kernel.lean ====
abbrev S10000x128 : Shape := ⟨2, ![10000, 128]⟩
abbrev S2x320000 : Shape := ⟨2, ![2, 320000]⟩
abbrev S320000x16 : Shape := ⟨2, ![320000, 16]⟩
abbrev S1x16 : Shape := ⟨2, ![1, 16]⟩
abbrev S10000 : Shape := ⟨1, ![10000]⟩
abbrev S144x256 : Shape := ⟨2, ![144, 256]⟩
abbrev S256 : Shape := ⟨1, ![256]⟩
abbrev S256x128 : Shape := ⟨2, ![256, 128]⟩
abbrev S128 : Shape := ⟨1, ![128]⟩
abbrev S256x256 : Shape := ⟨2, ![256, 256]⟩
abbrev S1x320000 : Shape := ⟨2, ![1, 320000]⟩
abbrev S320000 : Shape := ⟨1, ![320000]⟩
abbrev S128x256 : Shape := ⟨2, ![128, 256]⟩
abbrev S10000x256 : Shape := ⟨2, ![10000, 256]⟩
abbrev S16x256 : Shape := ⟨2, ![16, 256]⟩
abbrev S320000x256 : Shape := ⟨2, ![320000, 256]⟩
abbrev S1x256 : Shape := ⟨2, ![1, 256]⟩
abbrev S_ : Shape := ⟨0, ![]⟩
abbrev S320000x1 : Shape := ⟨2, ![320000, 1]⟩
abbrev S10000x1 : Shape := ⟨2, ![10000, 1]⟩
abbrev S1x128 : Shape := ⟨2, ![1, 128]⟩
abbrev S1000x128 : Shape := ⟨2, ![1000, 128]⟩
abbrev S1000x256 : Shape := ⟨2, ![1000, 256]⟩

abbrev nBuf : Space → Nat
  | .hbm => 102
  | .vmem => 12
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S320000x16, .f32⟩
  | .hbm, ⟨3, _⟩ => ⟨S1x16, .f32⟩
  | .hbm, ⟨4, _⟩ => ⟨S10000, .i32⟩
  | .hbm, ⟨5, _⟩ => ⟨S144x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S144x256, .f32⟩
  | .hbm, ⟨10, _⟩ => ⟨S256, .f32⟩
  | .hbm, ⟨11, _⟩ => ⟨S256x128, .f32⟩
  | .hbm, ⟨12, _⟩ => ⟨S128, .f32⟩
  | .hbm, ⟨13, _⟩ => ⟨S256x256, .f32⟩
  | .hbm, ⟨14, _⟩ => ⟨S256, .f32⟩
  | .hbm, ⟨15, _⟩ => ⟨S256x128, .f32⟩
  | .hbm, ⟨16, _⟩ => ⟨S128, .f32⟩
  | .hbm, ⟨17, _⟩ => ⟨S1x320000, .i32⟩
  | .hbm, ⟨18, _⟩ => ⟨S320000, .i32⟩
  | .hbm, ⟨19, _⟩ => ⟨S1x320000, .i32⟩
  | .hbm, ⟨20, _⟩ => ⟨S320000, .i32⟩
  | .hbm, ⟨21, _⟩ => ⟨S128x256, .f32⟩
  | .hbm, ⟨22, _⟩ => ⟨S10000x256, .f32⟩
  | .hbm, ⟨23, _⟩ => ⟨S128x256, .f32⟩
  | .hbm, ⟨24, _⟩ => ⟨S10000x256, .f32⟩
  | .hbm, ⟨25, _⟩ => ⟨S16x256, .f32⟩
  | .hbm, ⟨26, _⟩ => ⟨S320000x256, .f32⟩
  | .hbm, ⟨27, _⟩ => ⟨S1x256, .f32⟩
  | .hbm, ⟨28, _⟩ => ⟨S320000x256, .f32⟩
  | .hbm, ⟨29, _⟩ => ⟨S320000x256, .f32⟩
  | .hbm, ⟨30, _⟩ => ⟨S16x256, .f32⟩
  | .hbm, ⟨31, _⟩ => ⟨S320000x256, .f32⟩
  | .hbm, ⟨32, _⟩ => ⟨S1x256, .f32⟩
  | .hbm, ⟨33, _⟩ => ⟨S320000x256, .f32⟩
  | .hbm, ⟨34, _⟩ => ⟨S320000x256, .f32⟩
  | .hbm, ⟨35, _⟩ => ⟨S_, .i32⟩
  | .hbm, ⟨36, _⟩ => ⟨S320000, .i32⟩
  | .hbm, ⟨37, _⟩ => ⟨S320000, .i1⟩
  | .hbm, ⟨38, _⟩ => ⟨S_, .i32⟩
  | .hbm, ⟨39, _⟩ => ⟨S320000, .i32⟩
  | .hbm, ⟨40, _⟩ => ⟨S320000, .i32⟩
  | .hbm, ⟨41, _⟩ => ⟨S320000, .i32⟩
  | .hbm, ⟨42, _⟩ => ⟨S320000x1, .i32⟩
  | .hbm, ⟨43, _⟩ => ⟨S320000x256, .f32⟩
  | .hbm, ⟨44, _⟩ => ⟨S320000x256, .f32⟩
  | .hbm, ⟨45, _⟩ => ⟨S_, .f32⟩
  | .hbm, ⟨46, _⟩ => ⟨S320000x256, .f32⟩
  | .hbm, ⟨47, _⟩ => ⟨S320000x256, .f32⟩
  | .hbm, ⟨48, _⟩ => ⟨S320000x256, .f32⟩
  | .hbm, ⟨49, _⟩ => ⟨S_, .i32⟩
  | .hbm, ⟨50, _⟩ => ⟨S320000, .i32⟩
  | .hbm, ⟨51, _⟩ => ⟨S320000, .i1⟩
  | .hbm, ⟨52, _⟩ => ⟨S_, .i32⟩
  | .hbm, ⟨53, _⟩ => ⟨S320000, .i32⟩
  | .hbm, ⟨54, _⟩ => ⟨S320000, .i32⟩
  | .hbm, ⟨55, _⟩ => ⟨S320000, .i32⟩
  | .hbm, ⟨56, _⟩ => ⟨S320000x1, .i32⟩
  | .hbm, ⟨57, _⟩ => ⟨S320000x256, .f32⟩
  | .hbm, ⟨58, _⟩ => ⟨S320000x256, .f32⟩
  | .hbm, ⟨59, _⟩ => ⟨S_, .f32⟩
  | .hbm, ⟨60, _⟩ => ⟨S320000x256, .f32⟩
  | .hbm, ⟨61, _⟩ => ⟨S320000x256, .f32⟩
  | .hbm, ⟨62, _⟩ => ⟨S320000x256, .f32⟩
  | .hbm, ⟨63, _⟩ => ⟨S_, .f32⟩
  | .hbm, ⟨64, _⟩ => ⟨S10000x256, .f32⟩
  | .hbm, ⟨65, _⟩ => ⟨S320000x1, .i32⟩
  | .hbm, ⟨66, _⟩ => ⟨S10000x256, .f32⟩
  | .hbm, ⟨67, _⟩ => ⟨S_, .f32⟩
  | .hbm, ⟨68, _⟩ => ⟨S10000x256, .f32⟩
  | .hbm, ⟨69, _⟩ => ⟨S320000x1, .i32⟩
  | .hbm, ⟨70, _⟩ => ⟨S10000x256, .f32⟩
  | .hbm, ⟨71, _⟩ => ⟨S_, .f32⟩
  | .hbm, ⟨72, _⟩ => ⟨S320000, .f32⟩
  | .hbm, ⟨73, _⟩ => ⟨S_, .f32⟩
  | .hbm, ⟨74, _⟩ => ⟨S10000, .f32⟩
  | .hbm, ⟨75, _⟩ => ⟨S320000x1, .i32⟩
  | .hbm, ⟨76, _⟩ => ⟨S10000, .f32⟩
  | .hbm, ⟨77, _⟩ => ⟨S_, .f32⟩
  | .hbm, ⟨78, _⟩ => ⟨S10000, .f32⟩
  | .hbm, ⟨79, _⟩ => ⟨S320000x1, .i32⟩
  | .hbm, ⟨80, _⟩ => ⟨S10000, .f32⟩
  | .hbm, ⟨81, _⟩ => ⟨S10000x128, .f32⟩
  | .hbm, ⟨82, _⟩ => ⟨S10000x1, .f32⟩
  | .hbm, ⟨83, _⟩ => ⟨S1x128, .f32⟩
  | .hbm, ⟨84, _⟩ => ⟨S10000x128, .f32⟩
  | .hbm, ⟨85, _⟩ => ⟨S10000x128, .f32⟩
  | .hbm, ⟨86, _⟩ => ⟨S10000x128, .f32⟩
  | .hbm, ⟨87, _⟩ => ⟨S10000x128, .f32⟩
  | .hbm, ⟨88, _⟩ => ⟨S10000x128, .f32⟩
  | .hbm, ⟨89, _⟩ => ⟨S10000x1, .f32⟩
  | .hbm, ⟨90, _⟩ => ⟨S1x128, .f32⟩
  | .hbm, ⟨91, _⟩ => ⟨S10000x128, .f32⟩
  | .hbm, ⟨92, _⟩ => ⟨S10000x128, .f32⟩
  | .hbm, ⟨93, _⟩ => ⟨S10000x128, .f32⟩
  | .hbm, ⟨94, _⟩ => ⟨S10000x128, .f32⟩
  | .hbm, ⟨95, _⟩ => ⟨S_, .f32⟩
  | .hbm, ⟨96, _⟩ => ⟨S10000, .f32⟩
  | .hbm, ⟨97, _⟩ => ⟨S10000, .f32⟩
  | .hbm, ⟨98, _⟩ => ⟨S10000x1, .f32⟩
  | .hbm, ⟨99, _⟩ => ⟨S10000x128, .f32⟩
  | .hbm, ⟨100, _⟩ => ⟨S10000x128, .f32⟩
  | .hbm, ⟨101, _⟩ => ⟨S10000x128, .f32⟩
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S1000x128, .f32⟩
  | .local _ .vmem, ⟨5, _⟩ => ⟨S1000x128, .f32⟩
  | .local _ .vmem, ⟨6, _⟩ => ⟨S256x256, .f32⟩
  | .local _ .vmem, ⟨7, _⟩ => ⟨S256, .f32⟩
  | .local _ .vmem, ⟨8, _⟩ => ⟨S256x128, .f32⟩
  | .local _ .vmem, ⟨9, _⟩ => ⟨S128, .f32⟩
  | .local _ .vmem, ⟨10, _⟩ => ⟨S1000x128, .f32⟩
  | .local _ .vmem, ⟨11, _⟩ => ⟨S1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_c_0 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_1 : Ref sig .tc := ⟨.hbm, 49, rfl⟩
abbrev main_v29 : Ref sig .tc := ⟨.hbm, 50, rfl⟩
abbrev main_v30 : Ref sig .tc := ⟨.hbm, 51, rfl⟩
abbrev main_c_2 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_3 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_4 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_5 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_6 : Ref sig .tc := ⟨.hbm, 71, rfl⟩
abbrev main_v46 : Ref sig .tc := ⟨.hbm, 72, rfl⟩
abbrev main_cst_7 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_8 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_9 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S10000x128 : Shape := ⟨2, ![10000, 128]⟩
abbrev S2x320000 : Shape := ⟨2, ![2, 320000]⟩
abbrev S320000x16 : Shape := ⟨2, ![320000, 16]⟩
abbrev S1x16 : Shape := ⟨2, ![1, 16]⟩
abbrev S10000 : Shape := ⟨1, ![10000]⟩
abbrev S144x256 : Shape := ⟨2, ![144, 256]⟩
abbrev S256 : Shape := ⟨1, ![256]⟩
abbrev S256x128 : Shape := ⟨2, ![256, 128]⟩
abbrev S128 : Shape := ⟨1, ![128]⟩
abbrev S256x256 : Shape := ⟨2, ![256, 256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x128 : Shape := ⟨2, ![320000, 128]⟩
abbrev S320000x144 : Shape := ⟨2, ![320000, 144]⟩
abbrev S320000x256 : Shape := ⟨2, ![320000, 256]⟩
abbrev S1x256 : Shape := ⟨2, ![1, 256]⟩
abbrev S1x128 : Shape := ⟨2, ![1, 128]⟩
abbrev S10000x1 : Shape := ⟨2, ![10000, 1]⟩
abbrev S10000x256 : Shape := ⟨2, ![10000, 256]⟩

abbrev nBuf : Space → Nat
  | .hbm => 111
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S320000x16, .f32⟩
  | .hbm, ⟨3, _⟩ => ⟨S1x16, .f32⟩
  | .hbm, ⟨4, _⟩ => ⟨S10000, .i32⟩
  | .hbm, ⟨5, _⟩ => ⟨S144x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S144x256, .f32⟩
  | .hbm, ⟨10, _⟩ => ⟨S256, .f32⟩
  | .hbm, ⟨11, _⟩ => ⟨S256x128, .f32⟩
  | .hbm, ⟨12, _⟩ => ⟨S128, .f32⟩
  | .hbm, ⟨13, _⟩ => ⟨S256x256, .f32⟩
  | .hbm, ⟨14, _⟩ => ⟨S256, .f32⟩
  | .hbm, ⟨15, _⟩ => ⟨S256x128, .f32⟩
  | .hbm, ⟨16, _⟩ => ⟨S128, .f32⟩
  | .hbm, ⟨17, _⟩ => ⟨S1x320000, .i32⟩
  | .hbm, ⟨18, _⟩ => ⟨S320000, .i32⟩
  | .hbm, ⟨19, _⟩ => ⟨S1x320000, .i32⟩
  | .hbm, ⟨20, _⟩ => ⟨S320000, .i32⟩
  | .hbm, ⟨21, _⟩ => ⟨S_, .i32⟩
  | .hbm, ⟨22, _⟩ => ⟨S320000, .i32⟩
  | .hbm, ⟨23, _⟩ => ⟨S320000, .i1⟩
  | .hbm, ⟨24, _⟩ => ⟨S_, .i32⟩
  | .hbm, ⟨25, _⟩ => ⟨S320000, .i32⟩
  | .hbm, ⟨26, _⟩ => ⟨S320000, .i32⟩
  | .hbm, ⟨27, _⟩ => ⟨S320000, .i32⟩
  | .hbm, ⟨28, _⟩ => ⟨S320000x1, .i32⟩
  | .hbm, ⟨29, _⟩ => ⟨S320000x128, .f32⟩
  | .hbm, ⟨30, _⟩ => ⟨S320000x144, .f32⟩
  | .hbm, ⟨31, _⟩ => ⟨S320000x256, .f32⟩
  | .hbm, ⟨32, _⟩ => ⟨S1x256, .f32⟩
  | .hbm, ⟨33, _⟩ => ⟨S320000x256, .f32⟩
  | .hbm, ⟨34, _⟩ => ⟨S320000x256, .f32⟩
  | .hbm, ⟨35, _⟩ => ⟨S_, .f32⟩
  | .hbm, ⟨36, _⟩ => ⟨S_, .f32⟩
  | .hbm, ⟨37, _⟩ => ⟨S320000x256, .f32⟩
  | .hbm, ⟨38, _⟩ => ⟨S320000x256, .i1⟩
  | .hbm, ⟨39, _⟩ => ⟨S_, .f32⟩
  | .hbm, ⟨40, _⟩ => ⟨S320000x256, .f32⟩
  | .hbm, ⟨41, _⟩ => ⟨S320000x256, .f32⟩
  | .hbm, ⟨42, _⟩ => ⟨S320000x256, .f32⟩
  | .hbm, ⟨43, _⟩ => ⟨S320000x128, .f32⟩
  | .hbm, ⟨44, _⟩ => ⟨S1x128, .f32⟩
  | .hbm, ⟨45, _⟩ => ⟨S320000x128, .f32⟩
  | .hbm, ⟨46, _⟩ => ⟨S320000x128, .f32⟩
  | .hbm, ⟨47, _⟩ => ⟨S_, .f32⟩
  | .hbm, ⟨48, _⟩ => ⟨S10000x128, .f32⟩
  | .hbm, ⟨49, _⟩ => ⟨S320000x1, .i32⟩
  | .hbm, ⟨50, _⟩ => ⟨S10000x128, .f32⟩
  | .hbm, ⟨51, _⟩ => ⟨S_, .i32⟩
  | .hbm, ⟨52, _⟩ => ⟨S320000, .i32⟩
  | .hbm, ⟨53, _⟩ => ⟨S320000, .i1⟩
  | .hbm, ⟨54, _⟩ => ⟨S_, .i32⟩
  | .hbm, ⟨55, _⟩ => ⟨S320000, .i32⟩
  | .hbm, ⟨56, _⟩ => ⟨S320000, .i32⟩
  | .hbm, ⟨57, _⟩ => ⟨S320000, .i32⟩
  | .hbm, ⟨58, _⟩ => ⟨S320000x1, .i32⟩
  | .hbm, ⟨59, _⟩ => ⟨S320000x128, .f32⟩
  | .hbm, ⟨60, _⟩ => ⟨S320000x144, .f32⟩
  | .hbm, ⟨61, _⟩ => ⟨S320000x256, .f32⟩
  | .hbm, ⟨62, _⟩ => ⟨S1x256, .f32⟩
  | .hbm, ⟨63, _⟩ => ⟨S320000x256, .f32⟩
  | .hbm, ⟨64, _⟩ => ⟨S320000x256, .f32⟩
  | .hbm, ⟨65, _⟩ => ⟨S_, .f32⟩
  | .hbm, ⟨66, _⟩ => ⟨S_, .f32⟩
  | .hbm, ⟨67, _⟩ => ⟨S320000x256, .f32⟩
  | .hbm, ⟨68, _⟩ => ⟨S320000x256, .i1⟩
  | .hbm, ⟨69, _⟩ => ⟨S_, .f32⟩
  | .hbm, ⟨70, _⟩ => ⟨S320000x256, .f32⟩
  | .hbm, ⟨71, _⟩ => ⟨S320000x256, .f32⟩
  | .hbm, ⟨72, _⟩ => ⟨S320000x256, .f32⟩
  | .hbm, ⟨73, _⟩ => ⟨S320000x128, .f32⟩
  | .hbm, ⟨74, _⟩ => ⟨S1x128, .f32⟩
  | .hbm, ⟨75, _⟩ => ⟨S320000x128, .f32⟩
  | .hbm, ⟨76, _⟩ => ⟨S320000x128, .f32⟩
  | .hbm, ⟨77, _⟩ => ⟨S_, .f32⟩
  | .hbm, ⟨78, _⟩ => ⟨S10000x128, .f32⟩
  | .hbm, ⟨79, _⟩ => ⟨S320000x1, .i32⟩
  | .hbm, ⟨80, _⟩ => ⟨S10000x128, .f32⟩
  | .hbm, ⟨81, _⟩ => ⟨S_, .f32⟩
  | .hbm, ⟨82, _⟩ => ⟨S320000, .f32⟩
  | .hbm, ⟨83, _⟩ => ⟨S_, .f32⟩
  | .hbm, ⟨84, _⟩ => ⟨S10000, .f32⟩
  | .hbm, ⟨85, _⟩ => ⟨S320000x1, .i32⟩
  | .hbm, ⟨86, _⟩ => ⟨S10000, .f32⟩
  | .hbm, ⟨87, _⟩ => ⟨S_, .f32⟩
  | .hbm, ⟨88, _⟩ => ⟨S10000, .f32⟩
  | .hbm, ⟨89, _⟩ => ⟨S10000, .f32⟩
  | .hbm, ⟨90, _⟩ => ⟨S10000x1, .f32⟩
  | .hbm, ⟨91, _⟩ => ⟨S10000x128, .f32⟩
  | .hbm, ⟨92, _⟩ => ⟨S10000x128, .f32⟩
  | .hbm, ⟨93, _⟩ => ⟨S10000x256, .f32⟩
  | .hbm, ⟨94, _⟩ => ⟨S10000x256, .f32⟩
  | .hbm, ⟨95, _⟩ => ⟨S1x256, .f32⟩
  | .hbm, ⟨96, _⟩ => ⟨S10000x256, .f32⟩
  | .hbm, ⟨97, _⟩ => ⟨S10000x256, .f32⟩
  | .hbm, ⟨98, _⟩ => ⟨S_, .f32⟩
  | .hbm, ⟨99, _⟩ => ⟨S_, .f32⟩
  | .hbm, ⟨100, _⟩ => ⟨S10000x256, .f32⟩
  | .hbm, ⟨101, _⟩ => ⟨S10000x256, .i1⟩
  | .hbm, ⟨102, _⟩ => ⟨S_, .f32⟩
  | .hbm, ⟨103, _⟩ => ⟨S10000x256, .f32⟩
  | .hbm, ⟨104, _⟩ => ⟨S10000x256, .f32⟩
  | .hbm, ⟨105, _⟩ => ⟨S10000x256, .f32⟩
  | .hbm, ⟨106, _⟩ => ⟨S10000x128, .f32⟩
  | .hbm, ⟨107, _⟩ => ⟨S1x128, .f32⟩
  | .hbm, ⟨108, _⟩ => ⟨S10000x128, .f32⟩
  | .hbm, ⟨109, _⟩ => ⟨S10000x128, .f32⟩
  | .hbm, ⟨110, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst : Ref sig .tc := ⟨.hbm, 35, rfl⟩
abbrev main_call0_cst : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_cst_1 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_c_2 : Ref sig .tc := ⟨.hbm, 51, rfl⟩
abbrev main_v24 : Ref sig .tc := ⟨.hbm, 52, rfl⟩
abbrev main_v25 : Ref sig .tc := ⟨.hbm, 53, rfl⟩
abbrev main_c_3 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_4 : Ref sig .tc := ⟨.hbm, 65, rfl⟩
abbrev main_call1_cst : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_cst_5 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_cst_6 : Ref sig .tc := ⟨.hbm, 81, rfl⟩
abbrev main_v44 : Ref sig .tc := ⟨.hbm, 82, rfl⟩
abbrev main_cst_7 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_cst_8 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_cst_9 : Ref sig .tc := ⟨.hbm, 98, rfl⟩
abbrev main_call2_cst : Ref sig .tc := ⟨.hbm, 99, rfl⟩
abbrev main_call2_v0 : Ref sig .tc := ⟨.hbm, 100, rfl⟩
abbrev main_call2_v1 : Ref sig .tc := ⟨.hbm, 101, rfl⟩
abbrev main_call2_v2 : Ref sig .tc := ⟨.hbm, 102, rfl⟩
abbrev main_call2_v3 : Ref sig .tc := ⟨.hbm, 103, rfl⟩
abbrev main_call2_v4 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩

abbrev nD : Nat := 1
abbrev τ : Topo := Topo.v7x

variable {F : FTy → Type} [FloatOps F]
-- ==== Proof.Sums.lean ====
/-
  Sums of extended reals: when a product distributes over a finite sum, and the rectifier that keeps a small slope on
  its negative side.
-/
module

public import Idealize.ShloMosaic.Lib.IdealHost
public import Idealize.ShloMosaic.Lib.ValueIdx

@[expose] public section

noncomputable section

open scoped BigOperators

namespace Cert.Edges

open Idealize.ShloMosaic

/-! ## Finite entries -/

/-- Neither infinity: a real number. -/
def Fin' (a : EReal) : Prop := a ≠ ⊤ ∧ a ≠ ⊥

/-- A real number is finite. -/
theorem Fin'.coe (r : ℝ) : Fin' (r : EReal) := ⟨EReal.coe_ne_top r, EReal.coe_ne_bot r⟩

/-- A finite number is a real one. -/
theorem Fin'.lift {a : EReal} (h : Fin' a) : ∃ r : ℝ, a = (r : EReal) := ⟨a.toReal, (EReal.coe_toReal h.1 h.2).symm⟩

/-- A sum of two finite numbers is finite. -/
theorem Fin'.add {a b : EReal} (ha : Fin' a) (hb : Fin' b) : Fin' (a + b) := by
  obtain ⟨r, rfl⟩ := ha.lift; obtain ⟨s, rfl⟩ := hb.lift
  rw [← EReal.coe_add]; exact Fin'.coe _

/-- So is a product. -/
theorem Fin'.mul {a b : EReal} (ha : Fin' a) (hb : Fin' b) : Fin' (a * b) := by
  obtain ⟨r, rfl⟩ := ha.lift; obtain ⟨s, rfl⟩ := hb.lift
  rw [← EReal.coe_mul]; exact Fin'.coe _

/-- So is a sum of many. -/
theorem Fin'.sum {ι : Type} (S : Finset ι) {f : ι → EReal} (h : ∀ i ∈ S, Fin' (f i)) : Fin' (∑ i ∈ S, f i) := by
  classical
  induction S using Finset.induction_on with
  | empty => rw [Finset.sum_empty]; exact Fin'.coe 0
  | insert a S ha ih =>
    rw [Finset.sum_insert ha]
    exact (h a (Finset.mem_insert_self a S)).add (ih fun i hi => h i (Finset.mem_insert_of_mem hi))

/-! ## Distributing a product over a sum -/

/-- Over finite entries. -/
theorem sum_mul_of_fin {ι : Type} (S : Finset ι) {f : ι → EReal} {w : EReal} (h : ∀ i ∈ S, Fin' (f i)) (hw : Fin' w) :
    (∑ i ∈ S, f i) * w = ∑ i ∈ S, f i * w := by
  classical
  induction S using Finset.induction_on with
  | empty => simp
  | insert a S ha ih =>
    have hS : ∀ i ∈ S, Fin' (f i) := fun i hi => h i (Finset.mem_insert_of_mem hi)
    rw [Finset.sum_insert ha, Finset.sum_insert ha, ← ih hS]
    obtain ⟨r, hr⟩ := (h a (Finset.mem_insert_self a S)).lift
    obtain ⟨s, hs⟩ := (Fin'.sum S hS).lift
    obtain ⟨t, rfl⟩ := hw.lift
    rw [hr, hs, ← EReal.coe_add, ← EReal.coe_mul, ← EReal.coe_mul, ← EReal.coe_mul, ← EReal.coe_add, add_mul]

/-- Over entries that are all nonnegative, whatever the factor. -/
theorem sum_mul_of_nonneg {ι : Type} (S : Finset ι) {f : ι → EReal} (w : EReal) (h : ∀ i ∈ S, 0 ≤ f i) :
    (∑ i ∈ S, f i) * w = ∑ i ∈ S, f i * w := by
  classical
  induction S using Finset.induction_on with
  | empty => simp
  | insert a S ha ih =>
    have hS : ∀ i ∈ S, 0 ≤ f i := fun i hi => h i (Finset.mem_insert_of_mem hi)
    rw [Finset.sum_insert ha, Finset.sum_insert ha, ← ih hS]
    exact EReal.right_distrib_of_nonneg (h a (Finset.mem_insert_self a S)) (Finset.sum_nonneg hS)

/-- Over entries that are all minus infinity, whatever the factor. -/
theorem sum_mul_of_bot {ι : Type} (S : Finset ι) {f : ι → EReal} {w : EReal} (hw : Fin' w) (h : ∀ i ∈ S, f i = ⊥) :
    (∑ i ∈ S, f i) * w = ∑ i ∈ S, f i * w := by
  classical
  induction S using Finset.induction_on with
  | empty => simp
  | insert a S ha ih =>
    have hS : ∀ i ∈ S, f i = ⊥ := fun i hi => h i (Finset.mem_insert_of_mem hi)
    rw [Finset.sum_insert ha, Finset.sum_insert ha, ← ih hS, h a (Finset.mem_insert_self a S)]
    obtain ⟨t, rfl⟩ := hw.lift
    rcases S.eq_empty_or_nonempty with rfl | ⟨b, hb⟩
    · simp
    · have hs : ∑ i ∈ S, f i = ⊥ := by
        rw [← Finset.add_sum_erase S f hb, hS b hb, EReal.bot_add]
      rw [hs, EReal.bot_add]
      rcases lt_trichotomy t 0 with ht | rfl | ht
      · rw [EReal.bot_mul_coe_of_neg ht]; rfl
      · simp
      · rw [EReal.bot_mul_coe_of_pos ht]; rfl

/-- What a hidden column may be for a product with a finite factor to distribute over a sum of its entries: finite
    everywhere, or one and the same infinity everywhere. -/
def Even {ι : Type} (f : ι → EReal) : Prop := (∀ i, Fin' (f i)) ∨ (∀ i, f i = ⊤) ∨ (∀ i, f i = ⊥)

/-- A finite factor may be pulled out of a sum of terms that are all finite or all the same infinity. -/
theorem sum_mul_of_even {ι : Type} (S : Finset ι) {f : ι → EReal} {w : EReal} (h : Even f) (hw : Fin' w) :
    (∑ i ∈ S, f i) * w = ∑ i ∈ S, f i * w := by
  rcases h with h | h | h
  · exact sum_mul_of_fin S (fun i _ => h i) hw
  · exact sum_mul_of_nonneg S w fun i _ => by rw [h i]; exact le_top
  · exact sum_mul_of_bot S hw fun i _ => h i

/-- A linear layer on a sum of rows, the bias counted once for each row, is the sum over the rows of the layer. -/
theorem sum_rows {ι κ : Type} [Fintype κ] (S : Finset ι) (h : ι → κ → EReal) (w : κ → EReal) (b : EReal)
    (hh : ∀ k, Even fun i => h i k) (hw : ∀ k, Fin' (w k)) :
    (∑ k, (∑ i ∈ S, h i k) * w k) + (∑ _i ∈ S, 1) * b = ∑ i ∈ S, ((∑ k, h i k * w k) + b) := by
  rw [Finset.sum_add_distrib, Finset.sum_comm]
  congr 1
  · exact Finset.sum_congr rfl fun k _ => sum_mul_of_even S (hh k) (hw k)
  · rw [sum_mul_of_nonneg S b fun _ _ => zero_le_one]
    exact Finset.sum_congr rfl fun _ _ => one_mul b

/-! ## The rectifier -/

/-- The slope on the negative side: the f32 literal nearest one hundredth. -/
def slope : EReal := Ideal.ofBits .f32 0x3C23D70A#32

/-- The slope as a fraction. -/
theorem slope_eq : slope = ((10737418 / 1073741824 : ℝ) : EReal) := by
  unfold slope
  simp [Ideal.ofBits, Ideal.ieee, -EReal.coe_mul]; norm_num

/-- The rectifier: `v` where it is not negative, `slope * v` elsewhere. -/
def leaky (v : EReal) : EReal := if 0 ≤ v then v else slope * v

/-- It is the larger of `v` and `slope * v`, the slope lying between zero and one. -/
theorem max_slope (v : EReal) : max v (slope * v) = leaky v := by
  unfold leaky
  rw [slope_eq]
  induction v with
  | bot => rw [EReal.coe_mul_bot_of_pos (by norm_num)]; simp
  | top => rw [EReal.coe_mul_top_of_pos (by norm_num)]; simp
  | coe r =>
    rw [← EReal.coe_mul]
    split_ifs with h
    · have hr : (0 : ℝ) ≤ r := by exact_mod_cast h
      exact max_eq_left (by exact_mod_cast (by nlinarith : (10737418 / 1073741824 : ℝ) * r ≤ r))
    · have hr : r < (0 : ℝ) := by
        by_contra hc; exact h (by exact_mod_cast not_lt.mp hc)
      exact max_eq_right (by exact_mod_cast (by nlinarith : r ≤ (10737418 / 1073741824 : ℝ) * r))

/-- The rectifier keeps finite numbers finite. -/
theorem leaky_fin {v : EReal} (h : Fin' v) : Fin' (leaky v) := by
  unfold leaky; split_ifs
  · exact h
  · exact Fin'.mul (by rw [slope_eq]; exact Fin'.coe _) h

/-- It keeps the positive infinity. -/
theorem leaky_top : leaky ⊤ = ⊤ := by unfold leaky; rw [if_pos le_top]

/-- It keeps the negative infinity. -/
theorem leaky_bot : leaky ⊥ = ⊥ := by
  unfold leaky
  rw [if_neg (by simp), slope_eq, EReal.coe_mul_bot_of_pos (by norm_num)]

/-- A hidden column: finite entries plus one bias, rectified. -/
theorem even_leaky {ι : Type} {f : ι → EReal} (b : EReal) (h : ∀ i, Fin' (f i)) : Even fun i => leaky (f i + b) := by
  by_cases ht : b = ⊤
  · refine Or.inr (Or.inl fun i => ?_)
    show leaky (f i + b) = ⊤
    rw [ht, EReal.add_top_of_ne_bot (h i).2, leaky_top]
  by_cases hb : b = ⊥
  · refine Or.inr (Or.inr fun i => ?_)
    show leaky (f i + b) = ⊥
    rw [hb, EReal.add_bot, leaky_bot]
  · exact Or.inl fun i => leaky_fin ((h i).add ⟨ht, hb⟩)

end Cert.Edges

end
-- ==== Proof.Model.lean ====
/-
  The graph layer's numbers, one element at a time: what an edge sends, what a node receives from its edges, and what
  the node makes of it. Shapes: 10000 nodes of 128 features, 320000 edges of 16 features, 256 hidden units.
-/
module

public import proofs.«01_k».proof.Proof.Sums

@[expose] public section

noncomputable section

open scoped BigOperators

namespace Cert.Edges

open Idealize.ShloMosaic Idealize.ShloMosaic.ValueIdx

/-- An array of extended reals of `a` rows and `b` columns. -/
abbrev Tab (a b : Nat) : Type := (⟨2, ![a, b]⟩ : Shape).Idx → EReal
/-- A row of extended reals. -/
abbrev Row (a : Nat) : Type := (⟨1, ![a]⟩ : Shape).Idx → EReal
/-- The edges' end points: row 0 the first ends, row 1 the second ends. -/
abbrev Ends : Type := (⟨2, ![2, 320000]⟩ : Shape).Idx → BitVec 32

/-- A negative node number counts from the end. -/
def wrapped (v : BitVec 32) : BitVec 32 := Scalar.select (IntOp.cmpi .slt v 0#32) (IntOp.addi v 10000#32) v

/-- The node a number names when a row is read: wrapped, then clamped into the table. -/
def node (v : BitVec 32) : Fin 10000 := ⟨min (wrapped v).toInt.toNat (10000 - 1), by omega⟩

/-- The edges whose end `r` is node `n`: the ones added up at that node. -/
def landing (ei : Ends) (r : Fin 2) (n : Fin 10000) : Finset (Fin 320000) :=
  Finset.univ.filter fun e => (ei (ix2 r e)).toInt = (n.val : Int)

/-- How many they are. -/
def count (ei : Ends) (r : Fin 2) (n : Fin 10000) : EReal := ∑ _e ∈ landing ei r n, 1

/-- Unit `k`'s share of the node at edge `e`'s end `r`. -/
def fromNode (x : Tab 10000 128) (w : Tab 144 256) (n : Fin 10000) (k : Fin 256) : EReal :=
  ∑ q : Fin 128, x (ix2 n q) * w (ix2 (q.castLE (by omega)) k)

/-- Unit `k`'s share of the edge's own features. -/
def fromEdge (ea : Tab 320000 16) (w : Tab 144 256) (e : Fin 320000) (k : Fin 256) : EReal :=
  ∑ q : Fin 16, ea (ix2 e q) * w (ix2 ⟨128 + q.val, by omega⟩ k)

/-- The hidden unit `k` of edge `e`, read at its end `r`. -/
def hidden (x : Tab 10000 128) (ei : Ends) (ea : Tab 320000 16) (w : Tab 144 256) (b : Row 256) (r : Fin 2)
    (e : Fin 320000) (k : Fin 256) : EReal :=
  leaky ((fromNode x w (node (ei (ix2 r e))) k + fromEdge ea w e k) + b (ix1 k))

/-- What edge `e`, read at its end `r`, sends in column `c`. -/
def message (x : Tab 10000 128) (ei : Ends) (ea : Tab 320000 16) (w : Tab 144 256) (b : Row 256) (w' : Tab 256 128)
    (b' : Row 128) (r : Fin 2) (e : Fin 320000) (c : Fin 128) : EReal :=
  (∑ k : Fin 256, hidden x ei ea w b r e k * w' (ix2 k c)) + b' (ix1 c)

/-- What node `n` receives from the edges with end `s` there, each read at its end `r`. -/
def received (x : Tab 10000 128) (ei : Ends) (ea : Tab 320000 16) (w : Tab 144 256) (b : Row 256) (w' : Tab 256 128)
    (b' : Row 128) (r s : Fin 2) (n : Fin 10000) (c : Fin 128) : EReal :=
  ∑ e ∈ landing ei s n, message x ei ea w b w' b' r e c

/-- The mean of it over the edges, their number taken as at least one. -/
def mean (x : Tab 10000 128) (ei : Ends) (ea : Tab 320000 16) (w : Tab 144 256) (b : Row 256) (w' : Tab 256 128)
    (b' : Row 128) (r s : Fin 2) (n : Fin 10000) (c : Fin 128) : EReal :=
  Ideal.div (received x ei ea w b w' b' r s n c) (max (count ei s n) 1)

/-- A node's hidden unit `k` from its two rows of 128. -/
def joined (p f : Fin 128 → EReal) (w : Tab 256 256) (b : Row 256) (k : Fin 256) : EReal :=
  leaky ((∑ q : Fin 128, p q * w (ix2 (q.castLE (by omega)) k)
    + ∑ q : Fin 128, f q * w (ix2 ⟨128 + q.val, by omega⟩ k)) + b (ix1 k))

/-- A node's new column `c`: its hidden units through the last layer, plus its old column. -/
def renewed (p f : Fin 128 → EReal) (w : Tab 256 256) (b : Row 256) (w' : Tab 256 128) (b' : Row 128) (old : EReal)
    (c : Fin 128) : EReal :=
  ((∑ k : Fin 256, joined p f w b k * w' (ix2 k c)) + b' (ix1 c)) + old

/-! ## The parts the two programs share -/

/-- The two-way choice on the sign is the rectifier. -/
theorem select_leaky (v : EReal) :
    Scalar.select (FloatOps.cmpf (F := Ideal) (φ := .f32) .oge v (Ideal.ofBits .f32 0x00000000#32)) v (slope * v) = leaky v := by
  rw [Ideal.ofBits_zero_f32, Ideal.cmpf_def]
  unfold leaky
  by_cases h : (0 : EReal) ≤ v
  · rw [if_pos h]
    have : Ideal.cmp .oge v 0 = 1#1 := by simp [Ideal.cmp, h]
    rw [this]; rfl
  · rw [if_neg h]
    have : Ideal.cmp .oge v 0 = 0#1 := by simp [Ideal.cmp, h]
    rw [this]; rfl

/-- A sum over `a + b` places is the sum over the first `a` and the sum over the last `b`. -/
theorem sum_halves {a b n : Nat} (h : a + b = n) (f : Fin n → EReal) :
    ∑ q : Fin n, f q = ∑ q : Fin a, f (q.castLE (by omega)) + ∑ q : Fin b, f ⟨a + q.val, by omega⟩ := by
  subst h
  rw [Fin.sum_univ_add]
  rfl

end Cert.Edges

end
-- ==== Proof.Rows.lean ====
/-
  A gather of whole rows and an accumulating scatter of whole rows, read at an index: the gather's row number is clamped
  into the table, the scatter drops a row whose number is outside it.
-/
module

public import Idealize.ShloMosaic.Lib.IdealHost
public import Idealize.ShloMosaic.Lib.ValueIdx

@[expose] public section

noncomputable section

open scoped BigOperators

namespace Cert.Edges

open Idealize.ShloMosaic Idealize.ShloMosaic.ValueIdx

/-! ## Gathering rows -/

/-- One row of an `N × C` table for each of `B` row numbers. -/
def pickRows (N C B : Nat) (wf : GatherDims.WF ⟨2, ![N, C]⟩ ⟨2, ![B, 1]⟩ ⟨2, ![B, C]⟩ [1] [0] [] [0] [] 1 ![1, C]) :
    GatherDims ⟨2, ![N, C]⟩ ⟨2, ![B, 1]⟩ ⟨2, ![B, C]⟩ where
  offsetDims := [1]
  collapsedSliceDims := [0]
  operandBatchingDims := []
  startIndicesBatchingDims := []
  startIndexMap := [0]
  indexVectorDim := 1
  sliceSizes := ![1, C]
  wf := wf

/-- A picked row is the table's row at the clamped number. -/
theorem pickRows_apply {α : Type} {N C B w : Nat} (hN : 0 < N)
    (wf : GatherDims.WF ⟨2, ![N, C]⟩ ⟨2, ![B, 1]⟩ ⟨2, ![B, C]⟩ [1] [0] [] [0] [] 1 ![1, C])
    (x : (⟨2, ![N, C]⟩ : Shape).Idx → α) (idx : IVec ⟨2, ![B, 1]⟩ w) (e : Fin B) (k : Fin C) :
    Host.gather (pickRows N C B wf) x idx (ix2 e k)
      = x (ix2 ⟨min (idx (ix2 e 0)).toInt.toNat (N - 1), by omega⟩ k) := by
  unfold Host.gather
  refine congrArg x (funext fun a => Fin.ext ?_)
  show (pickRows N C B wf).start (ix2 e k) idx a + (pickRows N C B wf).batchCoord (ix2 e k) a
      + (pickRows N C B wf).offCoord (ix2 e k) a = _
  rw [GatherDims.batchCoord_eq_zero _ _ _ (fun h => by simp [pickRows] at h), Nat.add_zero]
  have hcases : a = 0 ∨ a = 1 := by
    match a with
    | ⟨0, _⟩ => exact Or.inl rfl
    | ⟨1, _⟩ => exact Or.inr rfl
  rcases hcases with rfl | rfl
  · rw [GatherDims.offCoord_eq_zero _ _ _ (fun h => ((GatherDims.mem_sKept _ _).mp h).1 (List.mem_singleton.mpr rfl)),
      Nat.add_zero]
    unfold GatherDims.start
    rw [dif_pos (show (0 : Fin 2) ∈ (pickRows N C B wf).startIndexMap from List.mem_singleton.mpr rfl)]
    have hs : (pickRows N C B wf).siIdx (ix2 e k) ⟨List.idxOf (0 : Fin 2) (pickRows N C B wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hs]
    rfl
  · unfold GatherDims.start
    rw [dif_neg (show (1 : Fin 2) ∉ (pickRows N C B wf).startIndexMap from fun h => by
      simp [pickRows] at h), Nat.zero_add]
    rfl

/-! ## Accumulating rows -/

/-- `B` rows of width `C` added into an `N × C` table, each at its own row number. -/
def dropRows (N C B : Nat) (wf : ScatterDims.WF ⟨2, ![N, C]⟩ ⟨2, ![B, 1]⟩ ⟨2, ![B, C]⟩ [1] [0] [0] 1) :
    ScatterDims ⟨2, ![N, C]⟩ ⟨2, ![B, 1]⟩ ⟨2, ![B, C]⟩ where
  updateWindowDims := [1]
  insertedWindowDims := [0]
  scatterDimsToOperandDims := [0]
  indexVectorDim := 1
  wf := wf

/-- Row `e` starts at the row that its number names, in column zero. -/
theorem dropRows_start {N C B w : Nat} (wf : ScatterDims.WF ⟨2, ![N, C]⟩ ⟨2, ![B, 1]⟩ ⟨2, ![B, C]⟩ [1] [0] [0] 1)
    (idx : IVec ⟨2, ![B, 1]⟩ w) (e : Fin B) (k : Fin C) :
    (dropRows N C B wf).start (ix2 e k) idx 0 = (idx (ix2 e 0)).toInt
      ∧ (dropRows N C B wf).start (ix2 e k) idx 1 = 0 := by
  constructor
  · unfold ScatterDims.start
    rw [dif_pos (show (0 : Fin 2) ∈ (dropRows N C B wf).scatterDimsToOperandDims from List.mem_singleton.mpr rfl)]
    have hs : (dropRows N C B wf).siIdx (ix2 e k) ⟨List.idxOf (0 : Fin 2) (dropRows N C B wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hs]
  · unfold ScatterDims.start
    rw [dif_neg (show (1 : Fin 2) ∉ (dropRows N C B wf).scatterDimsToOperandDims from fun h => by simp [dropRows] at h)]

/-- Its elements keep their columns. -/
theorem dropRows_window {N C B : Nat} (wf : ScatterDims.WF ⟨2, ![N, C]⟩ ⟨2, ![B, 1]⟩ ⟨2, ![B, C]⟩ [1] [0] [0] 1)
    (e : Fin B) (k : Fin C) :
    (dropRows N C B wf).window (ix2 e k) 0 = 0 ∧ (dropRows N C B wf).window (ix2 e k) 1 = k.val := ⟨rfl, rfl⟩

/-- Row `e` lands on row `n` exactly when its row number, read signed, is `n`; the column stays. -/
theorem dropRows_lands {N C B w : Nat} (wf : ScatterDims.WF ⟨2, ![N, C]⟩ ⟨2, ![B, 1]⟩ ⟨2, ![B, C]⟩ [1] [0] [0] 1)
    (idx : IVec ⟨2, ![B, 1]⟩ w) (e : Fin B) (k : Fin C) (n : Fin N) (c : Fin C) :
    (dropRows N C B wf).resultIdx? (ix2 e k) idx = some (ix2 n c)
      ↔ (idx (ix2 e 0)).toInt = (n.val : Int) ∧ k = c := by
  obtain ⟨hs0, hs1⟩ := dropRows_start wf idx e k
  obtain ⟨hw0, hw1⟩ := dropRows_window wf e k
  unfold ScatterDims.resultIdx?
  constructor
  · intro h
    split at h
    · rename_i hin
      have h' := Option.some.inj h
      have h0 := congrArg Fin.val (congrFun h' 0)
      have h1 := congrArg Fin.val (congrFun h' 1)
      have b0 := hin 0
      simp only [hs0, hw0, hs1, hw1] at h0 h1 b0
      refine ⟨?_, Fin.ext ?_⟩
      · have : ((idx (ix2 e 0)).toInt + ((0 : Nat) : Int)).toNat = n.val := h0
        omega
      · have : ((0 : Int) + (k.val : Int)).toNat = c.val := h1
        omega
    · exact absurd h (by simp)
  · rintro ⟨hn, rfl⟩
    have hin : ∀ a : Fin 2, 0 ≤ (dropRows N C B wf).start (ix2 e k) idx a + (dropRows N C B wf).window (ix2 e k) a
        ∧ (dropRows N C B wf).start (ix2 e k) idx a + (dropRows N C B wf).window (ix2 e k) a
          < ((⟨2, ![N, C]⟩ : Shape).size a : Int) := by
      intro a
      match a with
      | ⟨0, _⟩ =>
        show 0 ≤ (dropRows N C B wf).start (ix2 e k) idx 0 + (dropRows N C B wf).window (ix2 e k) 0
          ∧ (dropRows N C B wf).start (ix2 e k) idx 0 + (dropRows N C B wf).window (ix2 e k) 0 < (N : Int)
        rw [hs0, hw0, hn]; have := n.isLt; omega
      | ⟨1, _⟩ =>
        show 0 ≤ (dropRows N C B wf).start (ix2 e k) idx 1 + (dropRows N C B wf).window (ix2 e k) 1
          ∧ (dropRows N C B wf).start (ix2 e k) idx 1 + (dropRows N C B wf).window (ix2 e k) 1 < (C : Int)
        rw [hs1, hw1]; have := k.isLt; omega
    rw [dif_pos hin]
    congr 1
    funext a
    refine Fin.ext ?_
    match a with
    | ⟨0, _⟩ =>
      show ((dropRows N C B wf).start (ix2 e k) idx 0 + (dropRows N C B wf).window (ix2 e k) 0).toNat = n.val
      rw [hs0, hw0, hn]; omega
    | ⟨1, _⟩ =>
      show ((dropRows N C B wf).start (ix2 e k) idx 1 + (dropRows N C B wf).window (ix2 e k) 1).toNat = k.val
      rw [hs1, hw1]; omega

/-- A place holds what was there and all the rows with its number. -/
theorem dropRows_apply {N C B w : Nat} (wf : ScatterDims.WF ⟨2, ![N, C]⟩ ⟨2, ![B, 1]⟩ ⟨2, ![B, C]⟩ [1] [0] [0] 1)
    (x : FVec Ideal ⟨2, ![N, C]⟩ .f32) (idx : IVec ⟨2, ![B, 1]⟩ w) (u : FVec Ideal ⟨2, ![B, C]⟩ .f32)
    (n : Fin N) (c : Fin C) :
    (Host.scatterAdd (dropRows N C B wf) x idx u (ix2 n c) : EReal)
      = x (ix2 n c) + ∑ e ∈ Finset.univ.filter (fun e : Fin B => (idx (ix2 e 0)).toInt = (n.val : Int)), u (ix2 e c) := by
  show x (ix2 n c) + ∑ j ∈ Finset.univ.filter
      (fun j => (dropRows N C B wf).resultIdx? j idx = some (ix2 n c)), u j = _
  congr 1
  rw [Finset.sum_filter, sum_idx2, Finset.sum_filter]
  refine Finset.sum_congr rfl fun e _ => ?_
  simp only [dropRows_lands]
  split_ifs with h
  · simp [h]
  · simp [h]

/-! ## Accumulating numbers -/

/-- `B` numbers added into an array of `N`, each at its own place. -/
def dropEach (N B : Nat) (wf : ScatterDims.WF ⟨1, ![N]⟩ ⟨2, ![B, 1]⟩ ⟨1, ![B]⟩ [] [0] [0] 1) :
    ScatterDims ⟨1, ![N]⟩ ⟨2, ![B, 1]⟩ ⟨1, ![B]⟩ where
  updateWindowDims := []
  insertedWindowDims := [0]
  scatterDimsToOperandDims := [0]
  indexVectorDim := 1
  wf := wf

/-- Entry `e` starts at the place that its number names. -/
theorem dropEach_start {N B w : Nat} (wf : ScatterDims.WF ⟨1, ![N]⟩ ⟨2, ![B, 1]⟩ ⟨1, ![B]⟩ [] [0] [0] 1)
    (idx : IVec ⟨2, ![B, 1]⟩ w) (e : Fin B) :
    (dropEach N B wf).start (ix1 e) idx 0 = (idx (ix2 e 0)).toInt := by
  unfold ScatterDims.start
  rw [dif_pos (show (0 : Fin 1) ∈ (dropEach N B wf).scatterDimsToOperandDims from List.mem_singleton.mpr rfl)]
  have hs : (dropEach N B wf).siIdx (ix1 e) ⟨List.idxOf (0 : Fin 1) (dropEach N B wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hs]

/-- It lands at a place exactly if its number is the place's. -/
theorem dropEach_lands {N B w : Nat} (wf : ScatterDims.WF ⟨1, ![N]⟩ ⟨2, ![B, 1]⟩ ⟨1, ![B]⟩ [] [0] [0] 1)
    (idx : IVec ⟨2, ![B, 1]⟩ w) (e : Fin B) (n : Fin N) :
    (dropEach N B wf).resultIdx? (ix1 e) idx = some (ix1 n) ↔ (idx (ix2 e 0)).toInt = (n.val : Int) := by
  have hs := dropEach_start wf idx e
  have hw : (dropEach N B wf).window (ix1 e) 0 = 0 := rfl
  unfold ScatterDims.resultIdx?
  constructor
  · intro h
    split at h
    · rename_i hin
      have h0 := congrArg Fin.val (congrFun (Option.some.inj h) 0)
      have b0 := hin 0
      simp only [hs, hw] at h0 b0
      have : ((idx (ix2 e 0)).toInt + ((0 : Nat) : Int)).toNat = n.val := h0
      omega
    · exact absurd h (by simp)
  · intro hn
    have hin : ∀ a : Fin 1, 0 ≤ (dropEach N B wf).start (ix1 e) idx a + (dropEach N B wf).window (ix1 e) a
        ∧ (dropEach N B wf).start (ix1 e) idx a + (dropEach N B wf).window (ix1 e) a
          < ((⟨1, ![N]⟩ : Shape).size a : Int) := by
      intro a
      match a with
      | ⟨0, _⟩ =>
        show 0 ≤ (dropEach N B wf).start (ix1 e) idx 0 + (dropEach N B wf).window (ix1 e) 0
          ∧ (dropEach N B wf).start (ix1 e) idx 0 + (dropEach N B wf).window (ix1 e) 0 < (N : Int)
        rw [hs, hw, hn]; have := n.isLt; omega
    rw [dif_pos hin]
    congr 1
    funext a
    refine Fin.ext ?_
    match a with
    | ⟨0, _⟩ =>
      show ((dropEach N B wf).start (ix1 e) idx 0 + (dropEach N B wf).window (ix1 e) 0).toNat = n.val
      rw [hs, hw, hn]; omega

/-- A sum over the indices of a rank-1 array is a sum over its places. -/
theorem sum_places {B : Nat} (f : (⟨1, ![B]⟩ : Shape).Idx → EReal) : ∑ j, f j = ∑ e : Fin B, f (ix1 e) :=
  (Fintype.sum_equiv ⟨fun e : Fin B => (ix1 e : (⟨1, ![B]⟩ : Shape).Idx), fun j => j 0, fun _ => rfl, fun j => (eq_ix1 j).symm⟩
    _ _ fun _ => rfl).symm

/-- A place holds what was there and all the entries with its number. -/
theorem dropEach_apply {N B w : Nat} (wf : ScatterDims.WF ⟨1, ![N]⟩ ⟨2, ![B, 1]⟩ ⟨1, ![B]⟩ [] [0] [0] 1)
    (x : FVec Ideal ⟨1, ![N]⟩ .f32) (idx : IVec ⟨2, ![B, 1]⟩ w) (u : FVec Ideal ⟨1, ![B]⟩ .f32) (n : Fin N) :
    (Host.scatterAdd (dropEach N B wf) x idx u (ix1 n) : EReal)
      = x (ix1 n) + ∑ e ∈ Finset.univ.filter (fun e : Fin B => (idx (ix2 e 0)).toInt = (n.val : Int)), u (ix1 e) := by
  show x (ix1 n) + ∑ j ∈ Finset.univ.filter
      (fun j => (dropEach N B wf).resultIdx? j idx = some (ix1 n)), u j = _
  congr 1
  rw [Finset.sum_filter, sum_places, Finset.sum_filter]
  refine Finset.sum_congr rfl fun e _ => ?_
  simp only [dropEach_lands]

end Cert.Edges

end
-- ==== Proof.RefValue.lean ====
/-
  What the reference computes, at an index.
-/
module

public import proofs.«01_k».proof.Proof.Gen.ReferenceIdeal.Read
public import proofs.«01_k».proof.Proof.Model
public import proofs.«01_k».proof.Proof.Rows

@[expose] public section

noncomputable section

open scoped BigOperators

namespace Cert.RefValue

open Cert.Edges Cert.ReferenceIdeal Cert.ReferenceIdeal.Gen Cert.ReferenceIdeal.Read
open Idealize.ShloMosaic Idealize.ShloMosaic.ValueIdx

/-! ## The edges' ends -/

/-- The first row of the table of ends. -/
theorem first_ends (x1 : Ends) (e : Fin 320000) : val_main_v1 (F := Ideal) x1 (ix1 e) = x1 (ix2 0 e) := by
  rw [val_main_v1_apply, val_main_v0_apply]
  refine congrArg x1 (funext fun a => Fin.ext ?_)
  match a with
  | ⟨0, _⟩ => rfl
  | ⟨1, _⟩ => exact Nat.mod_eq_of_lt e.isLt

/-- The second row. -/
theorem second_ends (x1 : Ends) (e : Fin 320000) : val_main_v3 (F := Ideal) x1 (ix1 e) = x1 (ix2 1 e) := by
  rw [val_main_v3_apply, val_main_v2_apply]
  refine congrArg x1 (funext fun a => Fin.ext ?_)
  match a with
  | ⟨0, _⟩ => rfl
  | ⟨1, _⟩ => exact Nat.mod_eq_of_lt e.isLt

/-- The second ends with negative numbers wrapped. -/
theorem second_wrapped (x1 : Ends) (e : Fin 320000) :
    val_main_v9 (F := Ideal) x1 (ix2 e 0) = wrapped (x1 (ix2 1 e)) := by
  rw [val_main_v9_apply, show idx_main_v9 (ix2 e 0) = ix1 e from eq_ix1 _, val_main_v8_apply, val_main_v5_apply,
    val_main_v7_apply, val_main_v4_apply, val_main_v6_apply, second_ends]
  rfl

/-- The first ends likewise. -/
theorem first_wrapped (x1 : Ends) (e : Fin 320000) :
    val_main_v29 (F := Ideal) x1 (ix2 e 0) = wrapped (x1 (ix2 0 e)) := by
  rw [val_main_v29_apply, show idx_main_v29 (ix2 e 0) = ix1 e from eq_ix1 _, val_main_v28_apply, val_main_v25_apply,
    val_main_v27_apply, val_main_v24_apply, val_main_v26_apply, first_ends]
  rfl

/-- The edges added up at a node by their first ends. -/
theorem first_landing (x1 : Ends) (n : Fin 10000) :
    Finset.univ.filter (fun e : Fin 320000 => (val_main_v22 (F := Ideal) x1 (ix2 e 0)).toInt = (n.val : Int))
      = landing x1 0 n := by
  refine Finset.filter_congr fun e _ => ?_
  rw [val_main_v22_apply, show idx_main_v22 (ix2 e 0) = ix1 e from eq_ix1 _, first_ends]

/-- By their second ends, in the sum of the messages. -/
theorem second_landing (x1 : Ends) (n : Fin 10000) :
    Finset.univ.filter (fun e : Fin 320000 => (val_main_v42 (F := Ideal) x1 (ix2 e 0)).toInt = (n.val : Int))
      = landing x1 1 n := by
  refine Finset.filter_congr fun e _ => ?_
  rw [val_main_v42_apply, show idx_main_v42 (ix2 e 0) = ix1 e from eq_ix1 _, second_ends]

/-- By their second ends, in the count. -/
theorem second_landing' (x1 : Ends) (n : Fin 10000) :
    Finset.univ.filter (fun e : Fin 320000 => (val_main_v46 (F := Ideal) x1 (ix2 e 0)).toInt = (n.val : Int))
      = landing x1 1 n := by
  refine Finset.filter_congr fun e _ => ?_
  rw [val_main_v46_apply, show idx_main_v46 (ix2 e 0) = ix1 e from eq_ix1 _, second_ends]

/-! ## The layers' operands -/

/-- The first layer's sum over a row's two parts. -/
theorem parts (y : (⟨2, ![320000, 144]⟩ : Shape).Idx → EReal) (g : Tab 320000 128) (ea : Tab 320000 16) (w : Tab 144 256)
    (hy : y = concatenate S320000x144 1 [⟨S320000x128, g⟩, ⟨S320000x16, ea⟩] concatenates_S320000x128_S320000x16_S320000x144_d1)
    (e : Fin 320000) (k : Fin 256) :
    ∑ q : Fin 144, y (ix2 e q) * w (ix2 q k)
      = (∑ q : Fin 128, g (ix2 e q) * w (ix2 (q.castLE (by omega)) k)) + fromEdge ea w e k := by
  rw [sum_halves (a := 128) (b := 16) rfl]
  congr 1
  · refine Finset.sum_congr rfl fun q _ => ?_
    congr 1
    rw [hy]
    exact concatenate_pair_apply_left (t := S320000x144) (s₁ := S320000x128) (s₂ := S320000x16) 1 g ea _ _ rfl (ix2 e q)
      (fun b => match b with | ⟨0, _⟩ => rfl | ⟨1, _⟩ => rfl)
  · refine Finset.sum_congr rfl fun q _ => ?_
    congr 1
    rw [hy]
    refine concatenate_pair_apply_right (t := S320000x144) (s₁ := S320000x128) (s₂ := S320000x16) 1 g ea _ _ rfl rfl
      (ix2 e q) (fun b hb => ?_) (Nat.add_comm _ _)
    match b, hb with
    | ⟨0, _⟩, _ => rfl
    | ⟨1, _⟩, hb => exact absurd rfl hb

section
variable (x0 : Tab 10000 128) (x1 : Ends) (x2 : Tab 320000 16) (x5 : Tab 144 256) (x6 : Row 256) (x7 : Tab 256 128)
  (x8 : Row 128) (x9 : Tab 144 256) (x10 : Row 256) (x11 : Tab 256 128) (x12 : Row 128) (x13 : Tab 256 256)
  (x14 : Row 256) (x15 : Tab 256 128) (x16 : Row 128)

/-- The features of the node at an edge's second end. -/
theorem second_picked (e : Fin 320000) (q : Fin 128) :
    val_main_v10 (F := Ideal) x0 x1 (ix2 e q) = x0 (ix2 (node (x1 (ix2 1 e))) q) := by
  unfold val_main_v10
  refine (pickRows_apply (by omega) Gen.facts.gather_S10000x128_S320000x1_S320000x128_1_0_n_n_0_1_1128_wf x0 _ e q).trans ?_
  exact congrArg (fun i => x0 (ix2 i q)) (Fin.ext (congrArg (fun v : BitVec 32 => min v.toInt.toNat (10000 - 1)) (second_wrapped x1 e)))

/-- The features of the node at its first end. -/
theorem first_picked (e : Fin 320000) (q : Fin 128) :
    val_main_v30 (F := Ideal) x0 x1 (ix2 e q) = x0 (ix2 (node (x1 (ix2 0 e))) q) := by
  unfold val_main_v30
  refine (pickRows_apply (by omega) Gen.facts.gather_S10000x128_S320000x1_S320000x128_1_0_n_n_0_1_1128_wf x0 _ e q).trans ?_
  exact congrArg (fun i => x0 (ix2 i q)) (Fin.ext (congrArg (fun v : BitVec 32 => min v.toInt.toNat (10000 - 1)) (first_wrapped x1 e)))

/-! ## What an edge sends -/

/-- The hidden units of the future network at an edge. -/
theorem future_hidden (e : Fin 320000) (k : Fin 256) :
    val_main_v16 (F := Ideal) x0 x1 x2 x5 x6 (ix2 e k) = hidden x0 x1 x2 x5 x6 1 e k := by
  have h : val_main_v15 (F := Ideal) x0 x1 x2 x5 x6 (ix2 e k)
      = (fromNode x0 x5 (node (x1 (ix2 1 e))) k + fromEdge x2 x5 e k) + x6 (ix1 k) := by
    rw [val_main_v15_apply, val_main_v12_apply, val_main_v14_apply, val_main_v13_apply]
    refine congrArg₂ (fun a b : EReal => a + b) ?_ (congrArg x6 (eq_ix1 _))
    refine Eq.trans ?_ ((parts _ (val_main_v10 (F := Ideal) x0 x1) x2 x5 rfl e k).trans (congrArg (· + _)
      (Finset.sum_congr rfl fun q _ => by rw [second_picked])))
    exact Finset.sum_congr rfl fun q _ => congrArg₂ (fun a b : EReal => a * b) (congrArg _ (eq_ix2 _)) (congrArg x5 (eq_ix2 _))
  rw [val_main_v16_apply, val_main_call0_v1_apply, val_main_call0_v4_apply, val_main_call0_v0_apply,
    val_main_call0_v3_apply, h]
  exact select_leaky _

/-- The hidden units of the past network at an edge. -/
theorem past_hidden (e : Fin 320000) (k : Fin 256) :
    val_main_v36 (F := Ideal) x0 x1 x2 x9 x10 (ix2 e k) = hidden x0 x1 x2 x9 x10 0 e k := by
  have h : val_main_v35 (F := Ideal) x0 x1 x2 x9 x10 (ix2 e k)
      = (fromNode x0 x9 (node (x1 (ix2 0 e))) k + fromEdge x2 x9 e k) + x10 (ix1 k) := by
    rw [val_main_v35_apply, val_main_v32_apply, val_main_v34_apply, val_main_v33_apply]
    refine congrArg₂ (fun a b : EReal => a + b) ?_ (congrArg x10 (eq_ix1 _))
    refine Eq.trans ?_ ((parts _ (val_main_v30 (F := Ideal) x0 x1) x2 x9 rfl e k).trans (congrArg (· + _)
      (Finset.sum_congr rfl fun q _ => by rw [first_picked])))
    exact Finset.sum_congr rfl fun q _ => congrArg₂ (fun a b : EReal => a * b) (congrArg _ (eq_ix2 _)) (congrArg x9 (eq_ix2 _))
  rw [val_main_v36_apply, val_main_call1_v1_apply, val_main_call1_v4_apply, val_main_call1_v0_apply,
    val_main_call1_v3_apply, h]
  exact select_leaky _

/-- The future network's message of an edge. -/
theorem future_message (e : Fin 320000) (c : Fin 128) :
    val_main_v20 (F := Ideal) x0 x1 x2 x5 x6 x7 x8 (ix2 e c) = message x0 x1 x2 x5 x6 x7 x8 1 e c := by
  rw [val_main_v20_apply, val_main_v17_apply, val_main_v19_apply, val_main_v18_apply]
  refine congrArg₂ (fun a b : EReal => a + b) (Finset.sum_congr rfl fun k _ => ?_) (congrArg x8 (eq_ix1 _))
  rw [← future_hidden]
  exact congrArg₂ (fun a b : EReal => a * b) (congrArg _ (eq_ix2 _)) (congrArg x7 (eq_ix2 _))

/-- The past network's message of an edge. -/
theorem past_message (e : Fin 320000) (c : Fin 128) :
    val_main_v40 (F := Ideal) x0 x1 x2 x9 x10 x11 x12 (ix2 e c) = message x0 x1 x2 x9 x10 x11 x12 0 e c := by
  rw [val_main_v40_apply, val_main_v37_apply, val_main_v39_apply, val_main_v38_apply]
  refine congrArg₂ (fun a b : EReal => a + b) (Finset.sum_congr rfl fun k _ => ?_) (congrArg x12 (eq_ix1 _))
  rw [← past_hidden]
  exact congrArg₂ (fun a b : EReal => a * b) (congrArg _ (eq_ix2 _)) (congrArg x11 (eq_ix2 _))

/-! ## What a node receives -/

/-- The sum of the future messages at a node. -/
theorem future_received (n : Fin 10000) (c : Fin 128) :
    val_main_v23 (F := Ideal) x0 x1 x2 x5 x6 x7 x8 (ix2 n c) = received x0 x1 x2 x5 x6 x7 x8 1 0 n c := by
  unfold val_main_v23
  refine (dropRows_apply Gen.facts.scatter_S10000x128_S320000x1_S320000x128_1_0_0_1_wf _ _ _ n c).trans ?_
  rw [first_landing, val_main_v21_apply, show val_main_cst_1 (F := Ideal) _ = (0 : EReal) from Ideal.ofBits_zero_f32, zero_add]
  exact Finset.sum_congr rfl fun e _ => future_message x0 x1 x2 x5 x6 x7 x8 e c

/-- The sum of the past messages at a node. -/
theorem past_received (n : Fin 10000) (c : Fin 128) :
    val_main_v43 (F := Ideal) x0 x1 x2 x9 x10 x11 x12 (ix2 n c) = received x0 x1 x2 x9 x10 x11 x12 0 1 n c := by
  unfold val_main_v43
  refine (dropRows_apply Gen.facts.scatter_S10000x128_S320000x1_S320000x128_1_0_0_1_wf _ _ _ n c).trans ?_
  rw [second_landing, val_main_v41_apply, show val_main_cst_5 (F := Ideal) _ = (0 : EReal) from Ideal.ofBits_zero_f32, zero_add]
  exact Finset.sum_congr rfl fun e _ => past_message x0 x1 x2 x9 x10 x11 x12 e c

/-- The number of edges into a node. -/
theorem past_count (n : Fin 10000) : val_main_v47 (F := Ideal) x1 (ix1 n) = count x1 1 n := by
  unfold val_main_v47
  refine (dropEach_apply Gen.facts.scatter_S10000_S320000x1_S320000_n_0_0_1_wf _ _ _ n).trans ?_
  rw [second_landing', val_main_v45_apply, show val_main_cst_7 (F := Ideal) _ = (0 : EReal) from Ideal.ofBits_zero_f32, zero_add]
  refine Finset.sum_congr rfl fun e _ => ?_
  rw [val_main_v44_apply]
  exact Ideal.ofBits_one_f32

/-- The mean of the past messages at a node. -/
theorem past_mean (n : Fin 10000) (c : Fin 128) :
    val_main_v52 (F := Ideal) x0 x1 x2 x9 x10 x11 x12 (ix2 n c) = mean x0 x1 x2 x9 x10 x11 x12 0 1 n c := by
  rw [val_main_v52_apply, past_received, val_main_v51_apply, val_main_v50_apply,
    show idx_main_v50 (idx_main_v51 (ix2 n c)) = ix1 n from eq_ix1 _, val_main_v49_apply, past_count, val_main_v48_apply]
  exact congrArg (fun o : EReal => Ideal.div _ (max (count x1 1 n) o)) Ideal.ofBits_one_f32

/-! ## What the node makes of it -/

/-- The hidden units of the last network at a node. -/
theorem node_hidden (n : Fin 10000) (k : Fin 256) :
    val_main_v58 (F := Ideal) x0 x1 x2 x5 x6 x7 x8 x9 x10 x11 x12 x13 x14 (ix2 n k)
      = joined (mean x0 x1 x2 x9 x10 x11 x12 0 1 n) (received x0 x1 x2 x5 x6 x7 x8 1 0 n) x13 x14 k := by
  have h : val_main_v57 (F := Ideal) x0 x1 x2 x5 x6 x7 x8 x9 x10 x11 x12 x13 x14 (ix2 n k)
      = (∑ q : Fin 128, mean x0 x1 x2 x9 x10 x11 x12 0 1 n q * x13 (ix2 (q.castLE (by omega)) k)
        + ∑ q : Fin 128, received x0 x1 x2 x5 x6 x7 x8 1 0 n q * x13 (ix2 ⟨128 + q.val, by omega⟩ k)) + x14 (ix1 k) := by
    rw [val_main_v57_apply, val_main_v54_apply, val_main_v56_apply, val_main_v55_apply]
    refine congrArg₂ (fun a b : EReal => a + b) ?_ (congrArg x14 (eq_ix1 _))
    rw [sum_halves (a := 128) (b := 128) rfl]
    refine congrArg₂ (fun a b : EReal => a + b) (Finset.sum_congr rfl fun q _ => ?_) (Finset.sum_congr rfl fun q _ => ?_)
    · refine congrArg₂ (fun a b : EReal => a * b) ?_ (congrArg x13 (eq_ix2 _))
      rw [← past_mean]
      exact concatenate_pair_apply_left (t := S10000x256) (s₁ := S10000x128) (s₂ := S10000x128) 1 _ _ _ _ rfl (ix2 n q)
        (fun b => match b with | ⟨0, _⟩ => rfl | ⟨1, _⟩ => rfl)
    · refine congrArg₂ (fun a b : EReal => a * b) ?_ (congrArg x13 (eq_ix2 _))
      rw [← future_received]
      refine concatenate_pair_apply_right (t := S10000x256) (s₁ := S10000x128) (s₂ := S10000x128) 1 _ _ _ _ rfl rfl
        (ix2 n q) (fun b hb => ?_) (Nat.add_comm _ _)
      match b, hb with
      | ⟨0, _⟩, _ => rfl
      | ⟨1, _⟩, hb => exact absurd rfl hb
  rw [val_main_v58_apply, val_main_call2_v1_apply, val_main_call2_v4_apply, val_main_call2_v0_apply,
    val_main_call2_v3_apply, h]
  exact select_leaky _

/-- The reference's result at an index. -/
theorem result (n : Fin 10000) (c : Fin 128) :
    val_main_v63 (F := Ideal) x0 x1 x2 x5 x6 x7 x8 x9 x10 x11 x12 x13 x14 x15 x16 (ix2 n c)
      = renewed (mean x0 x1 x2 x9 x10 x11 x12 0 1 n) (received x0 x1 x2 x5 x6 x7 x8 1 0 n) x13 x14 x15 x16 (x0 (ix2 n c)) c := by
  rw [val_main_v63_apply, val_main_v62_apply, val_main_v59_apply, val_main_v61_apply, val_main_v60_apply]
  refine congrArg (fun a : EReal => a + x0 (ix2 n c)) ?_
  refine congrArg₂ (fun a b : EReal => a + b) (Finset.sum_congr rfl fun k _ => ?_) (congrArg x16 (eq_ix1 _))
  rw [← node_hidden]
  exact congrArg₂ (fun a b : EReal => a * b) (congrArg _ (eq_ix2 _)) (congrArg x15 (eq_ix2 _))

end

end Cert.RefValue

end
-- ==== Proof.KernelBlock.lean ====
/-
  What one block computes: a node's new row from its two rows of 128 and its old row.
-/
module

public import proofs.«01_k».proof.Proof.Gen.KernelIdeal.Skeleton
public import proofs.«01_k».proof.Proof.Model
public import Idealize.ShloMosaic.Lib.MatmulPlain
public import Idealize.ShloMosaic.Lib.Pipeline.Value

@[expose] public section

noncomputable section

open scoped BigOperators

namespace Cert.KernelBlock

open Cert.Edges Cert.KernelIdeal Cert.KernelIdeal.Gen
open Idealize.ShloMosaic Idealize.ShloMosaic.ValueIdx

variable (p f : Tab 1000 128) (w : Tab 256 256) (b : Row 256) (w' : Tab 256 128) (b' : Row 128) (old : Tab 1000 128)

/-- A bias of 256 cast to one row and repeated down the block is the bias at the column. -/
theorem bias256_apply (r : Fin 1000) (k : Fin 256) :
    broadcastTo S1000x256 (shapeCast S1x256 b shapeCasts_S256_S1x256) broadcasts_S1x256_S1000x256 (ix2 r k) = b (ix1 k) := by
  refine (broadcastTo_apply _ broadcasts_S1x256_S1000x256 (ix2 r k) (ix2 0 k) (fun a => match a with
    | ⟨0, _⟩ => by show 0 = if (1 : Nat) = 1 then 0 else r.val; rw [if_pos rfl]
    | ⟨1, _⟩ => by show k.val = if (256 : Nat) = 1 then 0 else k.val; rw [if_neg (by decide)])).trans ?_
  refine shapeCast_apply b shapeCasts_S256_S1x256 (ix2 0 k) (ix1 k) ?_
  rw [Shape.rowMajor_val_two, Shape.rowMajor_val_one]
  show k.val = 0 * 256 + k.val
  omega

/-- A bias of 128 likewise. -/
theorem bias128_apply (r : Fin 1000) (c : Fin 128) :
    broadcastTo S1000x128 (shapeCast S1x128 b' shapeCasts_S128_S1x128) broadcasts_S1x128_S1000x128 (ix2 r c) = b' (ix1 c) := by
  refine (broadcastTo_apply _ broadcasts_S1x128_S1000x128 (ix2 r c) (ix2 0 c) (fun a => match a with
    | ⟨0, _⟩ => by show 0 = if (1 : Nat) = 1 then 0 else r.val; rw [if_pos rfl]
    | ⟨1, _⟩ => by show c.val = if (128 : Nat) = 1 then 0 else c.val; rw [if_neg (by decide)])).trans ?_
  refine shapeCast_apply b' shapeCasts_S128_S1x128 (ix2 0 c) (ix1 c) ?_
  rw [Shape.rowMajor_val_two, Shape.rowMajor_val_one]
  show c.val = 0 * 128 + c.val
  omega

/-- A product of 1000 rows into 256 columns from nothing. -/
theorem product256_apply (y : Tab 1000 128) (u : Tab 128 256) (r : Fin 1000) (k : Fin 256) :
    (matmul (F := Ideal) (φ₁ := .f32) (φ₂ := .f32) dot_S1000x128_S128x256_S1000x256_1_0_0_1_n_n none y u
        (constant S1000x256 .f32 0x00000000#32) (ix2 r k) : EReal)
      = ∑ q : Fin 128, y (ix2 r q) * u (ix2 q k) := by
  refine (Ideal.matmul_plain_apply (M := 1000) (K := 128) (N := 256) none y u _ r k).trans ?_
  exact (congrArg (fun a : EReal => a + _) Ideal.ofBits_zero_f32).trans (zero_add _)

/-- A product of 1000 rows into 128 columns from nothing. -/
theorem product128_apply (y : Tab 1000 256) (u : Tab 256 128) (r : Fin 1000) (c : Fin 128) :
    (matmul (F := Ideal) (φ₁ := .f32) (φ₂ := .f32) dot_S1000x256_S256x128_S1000x128_1_0_0_1_n_n none y u
        (constant S1000x128 .f32 0x00000000#32) (ix2 r c) : EReal)
      = ∑ k : Fin 256, y (ix2 r k) * u (ix2 k c) := by
  refine (Ideal.matmul_plain_apply (M := 1000) (K := 256) (N := 128) none y u _ r c).trans ?_
  exact (congrArg (fun a : EReal => a + _) Ideal.ofBits_zero_f32).trans (zero_add _)

/-- The hidden units before the rectifier. -/
def mixed : Tab 1000 256 :=
  addf (F := Ideal) (φ := .f32)
    (addf
      (matmul (F := Ideal) (φ₁ := .f32) (φ₂ := .f32) dot_S1000x128_S128x256_S1000x256_1_0_0_1_n_n none
        (shapeCast S1000x128 p shapeCasts_S1000x128_S1000x128)
        (extractStridedSlice S128x256 ![0, 0] w slices_S256x256_o0_0_S128x256) (constant S1000x256 .f32 0x00000000#32))
      (matmul (F := Ideal) (φ₁ := .f32) (φ₂ := .f32) dot_S1000x128_S128x256_S1000x256_1_0_0_1_n_n none
        (shapeCast S1000x128 f shapeCasts_S1000x128_S1000x128)
        (extractStridedSlice S128x256 ![128, 0] w slices_S256x256_o128_0_S128x256) (constant S1000x256 .f32 0x00000000#32)))
    (broadcastTo S1000x256 (shapeCast S1x256 b shapeCasts_S256_S1x256) broadcasts_S1x256_S1000x256)

/-- At a row and a unit: the two halves' products and the bias. -/
theorem mixed_apply (r : Fin 1000) (k : Fin 256) :
    mixed p f w b (ix2 r k)
      = (∑ q : Fin 128, p (ix2 r q) * w (ix2 (q.castLE (by omega)) k)
          + ∑ q : Fin 128, f (ix2 r q) * w (ix2 ⟨128 + q.val, by omega⟩ k)) + b (ix1 k) := by
  unfold mixed
  rw [shapeCast_self, shapeCast_self]
  refine congrArg₂ (fun a b : EReal => a + b) (congrArg₂ (fun a b : EReal => a + b) ?_ ?_) (bias256_apply b r k)
  · refine (product256_apply p _ r k).trans (Finset.sum_congr rfl fun q _ => congrArg (fun t : EReal => p (ix2 r q) * t) ?_)
    exact extractStridedSlice_apply ![0, 0] w slices_S256x256_o0_0_S128x256 (ix2 q k) (ix2 (q.castLE (by omega)) k)
      (fun a => match a with
        | ⟨0, _⟩ => (Nat.zero_add _).symm
        | ⟨1, _⟩ => (Nat.zero_add _).symm)
  · refine (product256_apply f _ r k).trans (Finset.sum_congr rfl fun q _ => congrArg (fun t : EReal => f (ix2 r q) * t) ?_)
    exact extractStridedSlice_apply ![128, 0] w slices_S256x256_o128_0_S128x256 (ix2 q k) (ix2 ⟨128 + q.val, by omega⟩ k)
      (fun a => match a with
        | ⟨0, _⟩ => rfl
        | ⟨1, _⟩ => (Nat.zero_add _).symm)

/-- The body in terms of it. -/
theorem body_eq : k0_pay1 (F := Ideal) p f w b w' b' old
    = addf (F := Ideal) (φ := .f32)
        (addf
          (matmul (F := Ideal) (φ₁ := .f32) (φ₂ := .f32) dot_S1000x256_S256x128_S1000x128_1_0_0_1_n_n none
            (maximumf (F := Ideal) (φ := .f32) (mixed p f w b) (mulf (broadcast S1000x256 Edges.slope) (mixed p f w b)))
            w' (constant S1000x128 .f32 0x00000000#32))
          (broadcastTo S1000x128 (shapeCast S1x128 b' shapeCasts_S128_S1x128) broadcasts_S1x128_S1000x128)) old := rfl

/-- What the block's body computes at a row and a column: the renewed row of the model. -/
theorem body_apply (r : Fin 1000) (c : Fin 128) :
    (k0_pay1 (F := Ideal) p f w b w' b' old (ix2 r c) : EReal)
      = renewed (fun q => p (ix2 r q)) (fun q => f (ix2 r q)) w b w' b' (old (ix2 r c)) c := by
  rw [body_eq]
  refine congrArg (fun a : EReal => a + old (ix2 r c)) (congrArg₂ (fun a b : EReal => a + b) ?_ (bias128_apply b' r c))
  refine (product128_apply _ w' r c).trans (Finset.sum_congr rfl fun k _ => congrArg (fun t : EReal => t * w' (ix2 k c)) ?_)
  refine (max_slope (mixed p f w b (ix2 r k))).trans ?_
  rw [mixed_apply]
  rfl

end Cert.KernelBlock

end
-- ==== Proof.KernelArray.lean ====
/-
  What the kernel's result array holds: the blocks of 1000 rows put together.
-/
module

public import proofs.«01_k».proof.Proof.Gen.KernelIdeal.Value
public import proofs.«01_k».proof.Proof.KernelBlock

@[expose] public section

set_option maxRecDepth 16384

noncomputable section

open scoped BigOperators

namespace Cert.KernelArray

open Cert.Edges Cert.KernelIdeal Cert.KernelIdeal.Gen
open Idealize.ShloMosaic Idealize.ShloMosaic.ValueIdx Idealize.ShloMosaic.TcCoe
open Idealize.ShloMosaic.Pipeline (Window)

variable (m : (ℓ : Loc nD τ sig) → Buf (Elt Ideal) ℓ) (c : Dev nD)

/-! ## The blocks' places -/

/-- The windows of the past rows, the future rows, the old rows and the result are block `t` of 1000 rows at point `t`. -/
theorem place0 : ∀ t : Fin cfg0.N, win0_0.index t 0 = t.val ∧ win0_0.index t 1 = 0 :=
  (by decide +kernel : ∀ t : Fin grid0.N, win0_0.index t 0 = t.val ∧ win0_0.index t 1 = 0)
theorem place1 : ∀ t : Fin cfg0.N, win0_1.index t 0 = t.val ∧ win0_1.index t 1 = 0 :=
  (by decide +kernel : ∀ t : Fin grid0.N, win0_1.index t 0 = t.val ∧ win0_1.index t 1 = 0)
theorem place2 : ∀ t : Fin cfg0.N, win0_2.index t 0 = t.val ∧ win0_2.index t 1 = 0 :=
  (by decide +kernel : ∀ t : Fin grid0.N, win0_2.index t 0 = t.val ∧ win0_2.index t 1 = 0)
theorem place7 : ∀ t : Fin cfg0.N, win0_7.index t 0 = t.val ∧ win0_7.index t 1 = 0 :=
  (by decide +kernel : ∀ t : Fin grid0.N, win0_7.index t 0 = t.val ∧ win0_7.index t 1 = 0)

/-- There are ten points. -/
theorem points (t : Fin cfg0.N) : t.val < 10 := t.isLt

/-- Row `r` of block `t`, in the array. -/
def rowOf (t : Fin cfg0.N) (r : Fin 1000) : Fin 10000 :=
  ⟨t.val * 1000 + r.val, by have := points t; have := r.isLt; omega⟩

/-- An element of such a block in the whole array: row `t * 1000 + r`, the same column. -/
theorem emb0 (t : Fin cfg0.N) (r : Fin 1000) (q : Fin 128) :
    (win0_0.rect t).emb (ix2 r q) = ix2 (rowOf t r) q := by
  funext a
  refine Fin.ext ((win0_0.rect_emb_val t (ix2 r q) a).trans ?_)
  match a with
  | ⟨0, _⟩ => exact congrArg (fun n => n * 1000 + r.val) (place0 t).1
  | ⟨1, _⟩ => exact (congrArg (fun n => n * 128 + q.val) (place0 t).2).trans (by show 0 * 128 + q.val = q.val; omega)

theorem emb1 (t : Fin cfg0.N) (r : Fin 1000) (q : Fin 128) :
    (win0_1.rect t).emb (ix2 r q) = ix2 (rowOf t r) q := by
  funext a
  refine Fin.ext ((win0_1.rect_emb_val t (ix2 r q) a).trans ?_)
  match a with
  | ⟨0, _⟩ => exact congrArg (fun n => n * 1000 + r.val) (place1 t).1
  | ⟨1, _⟩ => exact (congrArg (fun n => n * 128 + q.val) (place1 t).2).trans (by show 0 * 128 + q.val = q.val; omega)

theorem emb2 (t : Fin cfg0.N) (r : Fin 1000) (q : Fin 128) :
    (win0_2.rect t).emb (ix2 r q) = ix2 (rowOf t r) q := by
  funext a
  refine Fin.ext ((win0_2.rect_emb_val t (ix2 r q) a).trans ?_)
  match a with
  | ⟨0, _⟩ => exact congrArg (fun n => n * 1000 + r.val) (place2 t).1
  | ⟨1, _⟩ => exact (congrArg (fun n => n * 128 + q.val) (place2 t).2).trans (by show 0 * 128 + q.val = q.val; omega)

theorem emb7 (t : Fin cfg0.N) (r : Fin 1000) (q : Fin 128) :
    (win0_7.rect t).emb (ix2 r q) = ix2 (rowOf t r) q := by
  funext a
  refine Fin.ext ((win0_7.rect_emb_val t (ix2 r q) a).trans ?_)
  match a with
  | ⟨0, _⟩ => exact congrArg (fun n => n * 1000 + r.val) (place7 t).1
  | ⟨1, _⟩ => exact (congrArg (fun n => n * 128 + q.val) (place7 t).2).trans (by show 0 * 128 + q.val = q.val; omega)

/-! ## What a point reads -/

/-- A block's element is the array's at its row: the past rows, the future rows, the old rows. -/
theorem read0 (t : Fin cfg0.N) (r : Fin 1000) (q : Fin 128) : iblk m c 0 t (ix2 r q) = V m c main_v71 (ix2 (rowOf t r) q) :=
  congrArg (V m c main_v71) (emb0 t r q)

theorem read1 (t : Fin cfg0.N) (r : Fin 1000) (q : Fin 128) : iblk m c 1 t (ix2 r q) = V m c main_v59 (ix2 (rowOf t r) q) :=
  congrArg (V m c main_v59) (emb1 t r q)

theorem read2 (t : Fin cfg0.N) (r : Fin 1000) (q : Fin 128) :
    iblk m c 2 t (ix2 r q) = m ((c : Thread nD τ).loc main_arg0) (ix2 (rowOf t r) q) :=
  (congrArg (V m c main_arg0) (emb2 t r q)).trans (congrFun (V_main_arg0 m c) _)

/-- The last network's matrices and biases are read whole. -/
theorem read3 (t : Fin cfg0.N) : iblk m c 3 t = m ((c : Thread nD τ).loc main_arg13) := by
  refine funext fun y => (congrArg (V m c main_arg13) (?_ : (win0_3.rect t).emb y = y)).trans (congrFun (V_main_arg13 m c) _)
  funext a
  exact Fin.ext (win0_3.rect_emb_val_of_index_zero t a (match a with | ⟨0, _⟩ => rfl | ⟨1, _⟩ => rfl) y)

theorem read4 (t : Fin cfg0.N) : iblk m c 4 t = m ((c : Thread nD τ).loc main_arg14) := by
  refine funext fun y => (congrArg (V m c main_arg14) (?_ : (win0_4.rect t).emb y = y)).trans (congrFun (V_main_arg14 m c) _)
  funext a
  exact Fin.ext (win0_4.rect_emb_val_of_index_zero t a (match a with | ⟨0, _⟩ => rfl) y)

theorem read5 (t : Fin cfg0.N) : iblk m c 5 t = m ((c : Thread nD τ).loc main_arg15) := by
  refine funext fun y => (congrArg (V m c main_arg15) (?_ : (win0_5.rect t).emb y = y)).trans (congrFun (V_main_arg15 m c) _)
  funext a
  exact Fin.ext (win0_5.rect_emb_val_of_index_zero t a (match a with | ⟨0, _⟩ => rfl | ⟨1, _⟩ => rfl) y)

theorem read6 (t : Fin cfg0.N) : iblk m c 6 t = m ((c : Thread nD τ).loc main_arg16) := by
  refine funext fun y => (congrArg (V m c main_arg16) (?_ : (win0_6.rect t).emb y = y)).trans (congrFun (V_main_arg16 m c) _)
  funext a
  exact Fin.ext (win0_6.rect_emb_val_of_index_zero t a (match a with | ⟨0, _⟩ => rfl) y)

/-! ## What a point writes -/

/-- Point `t` writes the renewed rows of its nodes. -/
theorem written (t : Fin cfg0.N) (r : Fin 1000) (q : Fin 128) :
    ((dats m 0 c).flushed 7 t (ix2 r q) : EReal)
      = renewed (fun q => V m c main_v71 (ix2 (rowOf t r) q)) (fun q => V m c main_v59 (ix2 (rowOf t r) q))
          (m ((c : Thread nD τ).loc main_arg13)) (m ((c : Thread nD τ).loc main_arg14)) (m ((c : Thread nD τ).loc main_arg15))
          (m ((c : Thread nD τ).loc main_arg16)) (m ((c : Thread nD τ).loc main_arg0) (ix2 (rowOf t r) q)) q := by
  rw [Value.flushed7]
  have hz2 : (![0, 0] : Fin 2 → Nat) = fun _ => 0 := by decide
  have hz1 : (![0] : Fin 1 → Nat) = fun _ => 0 := by decide
  have hout : out0_7 (iblk m c 0 t) (iblk m c 1 t) (iblk m c 2 t) (iblk m c 3 t) (iblk m c 4 t) (iblk m c 5 t) (iblk m c 6 t)
      = k0_pay1 (F := Ideal) (iblk m c 0 t) (iblk m c 1 t) (iblk m c 3 t) (iblk m c 4 t) (iblk m c 5 t) (iblk m c 6 t) (iblk m c 2 t) := by
    unfold out0_7
    refine (View.canon_unit_zero hz2 _ _).trans ?_
    rw [View.ld_unit_zero hz2, View.ld_unit_zero hz2, View.ld_unit_zero hz2, View.ld_unit_zero hz1, View.ld_unit_zero hz2,
      View.ld_unit_zero hz1, View.ld_unit_zero hz2]
  rw [hout, read3, read4, read5, read6]
  refine (KernelBlock.body_apply (iblk m c 0 t) (iblk m c 1 t) _ _ _ _ (iblk m c 2 t) r q).trans ?_
  simp only [read0, read1, read2]

/-- The result array at an index, from the two arrays the blocks read. -/
theorem result (n : Fin 10000) (q : Fin 128) :
    ((dats m 0 c).arrAt 7 cfg0.N (ix2 n q) : EReal)
      = renewed (fun q => V m c main_v71 (ix2 n q)) (fun q => V m c main_v59 (ix2 n q))
          (m ((c : Thread nD τ).loc main_arg13)) (m ((c : Thread nD τ).loc main_arg14)) (m ((c : Thread nD τ).loc main_arg15))
          (m ((c : Thread nD τ).loc main_arg16)) (m ((c : Thread nD τ).loc main_arg0) (ix2 n q)) q := by
  have hn := n.isLt
  let t : Fin cfg0.N := ⟨n.val / 1000, by show n.val / 1000 < 10; omega⟩
  let r : Fin 1000 := ⟨n.val % 1000, Nat.mod_lt _ (by decide)⟩
  have hr : rowOf t r = n := Fin.ext (by show n.val / 1000 * 1000 + n.val % 1000 = n.val; omega)
  have h := (dats m 0 c).arrAt_emb_eq_flushed 7 Value.disjoint7 t (flush0_7 t) (ix2 r q)
  have he : ((cfg0.win 7).blk t).view.emb (ix2 r q) = ix2 n q := (emb7 t r q).trans (by rw [hr])
  rw [he] at h
  rw [h]
  refine (written m c t r q).trans ?_
  rw [hr]

end Cert.KernelArray

end
-- ==== Proof.KernelHost.lean ====
/-
  The arrays the kernel prepares before its blocks run: for each direction, the hidden rows of the edges added up at
  the nodes, the number of edges at each node, and the layer applied to the two.
-/
module

public import proofs.«01_k».proof.Proof.Gen.KernelIdeal.Frame
public import Idealize.ShloMosaic.Lib.StableHlo.RunRead
public import proofs.«01_k».proof.Proof.Model
public import proofs.«01_k».proof.Proof.Rows

@[expose] public section

set_option maxRecDepth 16384

noncomputable section

open scoped BigOperators

namespace Cert.KernelHost

open Cert.Edges Cert.KernelIdeal Cert.KernelIdeal.Gen
open Idealize.ShloMosaic Idealize.ShloMosaic.ValueIdx Idealize.ShloMosaic.TcCoe

/-- The edges' ends, as node numbers. -/
abbrev EndRow : Type := IVec S320000 32

/-- Every edge's first end. -/
def firstEnds (ei : Ends) : EndRow :=
  shapeCast S320000 (extractStridedSlice S1x320000 ![0, 0] ei slices_S2x320000_S1x320000_0_0) shapeCasts_S1x320000_S320000

/-- Every edge's second end. -/
def secondEnds (ei : Ends) : EndRow :=
  shapeCast S320000 (extractStridedSlice S1x320000 ![1, 0] ei slices_S2x320000_S1x320000_1_0) shapeCasts_S1x320000_S320000

/-- The row numbers a gather is given. -/
def rowNumbers (v : EndRow) : IVec S320000x1 32 :=
  broadcastInDim S320000x1 ![0] bcast_S320000_S320000x1_0
    (select (cmpi .slt v (broadcastInDim S320000 ![] bcast_S_S320000 (constantI S_ 32 0#32)))
      (addi v (broadcastInDim S320000 ![] bcast_S_S320000 (constantI S_ 32 10000#32))) v)

/-- The first layer before its rectifier, for every edge. -/
def before (x : Tab 10000 128) (v : EndRow) (ea : Tab 320000 16) (w : Tab 144 256) (b : Row 256) : FVec Ideal S320000x256 .f32 :=
  addf
    (Host.gather gather_S10000x256_S320000x1_S320000x256_1_0_n_n_0_1_1256
      (Host.dotGeneral (F := Ideal) (φ₁ := .f32) (φ₂ := .f32) dot_S10000x128_S128x256_S10000x256_1_0_0_1_n_n none x
        (extractStridedSlice S128x256 ![0, 0] w slices_S144x256_S128x256_0_0)) (rowNumbers v))
    (addf
      (Host.dotGeneral (F := Ideal) (φ₁ := .f32) (φ₂ := .f32) dot_S320000x16_S16x256_S320000x256_1_0_0_1_n_n none ea
        (extractStridedSlice S16x256 ![128, 0] w slices_S144x256_S16x256_128_0))
      (broadcastInDim S320000x256 ![0, 1] bcast_S1x256_S320000x256_0_1 (broadcastInDim S1x256 ![1] bcast_S256_S1x256_1 b)))

/-- The hidden rows of the edges. -/
def hiddenRows (x : Tab 10000 128) (v : EndRow) (ea : Tab 320000 16) (w : Tab 144 256) (b : Row 256) : FVec Ideal S320000x256 .f32 :=
  maximumf (before x v ea w b)
    (mulf (broadcastInDim S320000x256 ![] bcast_S_S320000x256 (constant S_ .f32 0x3C23D70A#32)) (before x v ea w b))

/-- The number of edges at each node. -/
def counts (v : EndRow) : FVec Ideal S10000 .f32 :=
  Host.scatterAdd scatter_S10000_S320000x1_S320000_n_0_0_1
    (broadcastInDim S10000 ![] bcast_S_S10000 (constant S_ .f32 0x00000000#32))
    (broadcastInDim S320000x1 ![0] bcast_S320000_S320000x1_0 v)
    (broadcastInDim S320000 ![] bcast_S_S320000 (constant S_ .f32 0x3F800000#32))

/-- The second layer applied to the rows added up at each node, its bias once for each edge. -/
def gathered (h : FVec Ideal S320000x256 .f32) (v : EndRow) (w' : Tab 256 128) (b' : Row 128) : FVec Ideal S10000x128 .f32 :=
  addf
    (Host.dotGeneral (F := Ideal) (φ₁ := .f32) (φ₂ := .f32) dot_S10000x256_S256x128_S10000x128_1_0_0_1_n_n none
      (Host.scatterAdd scatter_S10000x256_S320000x1_S320000x256_1_0_0_1
        (broadcastInDim S10000x256 ![] bcast_S_S10000x256 (constant S_ .f32 0x00000000#32))
        (broadcastInDim S320000x1 ![0] bcast_S320000_S320000x1_0 v) h) w')
    (mulf
      (broadcastInDim S10000x128 ![0, 1] bcast_S10000x1_S10000x128_0_1 (broadcastInDim S10000x1 ![0] bcast_S10000_S10000x1_0 (counts v)))
      (broadcastInDim S10000x128 ![0, 1] bcast_S1x128_S10000x128_0_1 (broadcastInDim S1x128 ![1] bcast_S128_S1x128_1 b')))

/-- Divided by the number of edges, taken as at least one. -/
def averaged (y : FVec Ideal S10000x128 .f32) (v : EndRow) : FVec Ideal S10000x128 .f32 :=
  Host.divf y
    (broadcastInDim S10000x128 ![0, 1] bcast_S10000x1_S10000x128_0_1 (broadcastInDim S10000x1 ![0] bcast_S10000_S10000x1_0
      (maximumf (counts v) (broadcastInDim S10000 ![] bcast_S_S10000 (constant S_ .f32 0x3F800000#32)))))

variable (m : (ℓ : Loc nD τ sig) → Buf (Elt Ideal) ℓ) (c : Dev nD)

/-- The array of what each node receives from its first-end edges. -/
theorem future_array :
    V m c main_v59 = gathered (hiddenRows (m ((c : Thread nD τ).loc main_arg0)) (secondEnds (m ((c : Thread nD τ).loc main_arg1)))
      (m ((c : Thread nD τ).loc main_arg2)) (m ((c : Thread nD τ).loc main_arg5)) (m ((c : Thread nD τ).loc main_arg6)))
      (firstEnds (m ((c : Thread nD τ).loc main_arg1))) (m ((c : Thread nD τ).loc main_arg7)) (m ((c : Thread nD τ).loc main_arg8)) := by
  dsimp only [V, hostOps0]
  after_reads_simp
  rfl

/-- The array of what each node receives on average from its second-end edges. -/
theorem past_array :
    V m c main_v71 = averaged (gathered (hiddenRows (m ((c : Thread nD τ).loc main_arg0)) (firstEnds (m ((c : Thread nD τ).loc main_arg1)))
      (m ((c : Thread nD τ).loc main_arg2)) (m ((c : Thread nD τ).loc main_arg9)) (m ((c : Thread nD τ).loc main_arg10)))
      (secondEnds (m ((c : Thread nD τ).loc main_arg1))) (m ((c : Thread nD τ).loc main_arg11)) (m ((c : Thread nD τ).loc main_arg12)))
      (secondEnds (m ((c : Thread nD τ).loc main_arg1))) := by
  dsimp only [V, hostOps0]
  after_reads_simp
  rfl

end Cert.KernelHost

end
-- ==== Proof.KernelHostValue.lean ====
/-
  The kernel's prepared arrays at an index. Over finite features and weights, what a node receives is the sum of what
  its edges send: the second layer distributes over the sum of the hidden rows, and its bias comes once for each edge.
-/
module

public import proofs.«01_k».proof.Proof.KernelHost
public import Idealize.ShloMosaic.Lib.StackMember

@[expose] public section

noncomputable section

open scoped BigOperators

namespace Cert.KernelHost

open Cert.Edges Cert.KernelIdeal Cert.KernelIdeal.Gen
open Idealize.ShloMosaic Idealize.ShloMosaic.ValueIdx

/-! ## Layout operations at an index -/

/-- An edge's first end. -/
theorem firstEnds_apply (ei : Ends) (e : Fin 320000) : firstEnds ei (ix1 e) = ei (ix2 0 e) := by
  unfold firstEnds
  refine (shapeCast_apply _ shapeCasts_S1x320000_S320000 (ix1 e) (ix2 0 e) ?_).trans ?_
  · rw [Shape.rowMajor_val_two, Shape.rowMajor_val_one]
    show 0 * 320000 + e.val = e.val
    omega
  · exact extractStridedSlice_apply ![0, 0] ei slices_S2x320000_S1x320000_0_0 (ix2 0 e) (ix2 0 e)
      (fun a => match a with
        | ⟨0, _⟩ => rfl
        | ⟨1, _⟩ => (Nat.zero_add _).symm)

/-- An edge's second end. -/
theorem secondEnds_apply (ei : Ends) (e : Fin 320000) : secondEnds ei (ix1 e) = ei (ix2 1 e) := by
  unfold secondEnds
  refine (shapeCast_apply _ shapeCasts_S1x320000_S320000 (ix1 e) (ix2 0 e) ?_).trans ?_
  · rw [Shape.rowMajor_val_two, Shape.rowMajor_val_one]
    show 0 * 320000 + e.val = e.val
    omega
  · exact extractStridedSlice_apply ![1, 0] ei slices_S2x320000_S1x320000_1_0 (ix2 0 e) (ix2 1 e)
      (fun a => match a with
        | ⟨0, _⟩ => rfl
        | ⟨1, _⟩ => (Nat.zero_add _).symm)

/-- The ends stood in a column. -/
theorem column_apply (v : EndRow) (e : Fin 320000) :
    broadcastInDim S320000x1 ![0] bcast_S320000_S320000x1_0 v (ix2 e 0) = v (ix1 e) :=
  broadcastInDim_apply _ bcast_S320000_S320000x1_0 v (ix2 e 0) (ix1 e) (fun a => match a with
    | ⟨0, _⟩ => by show e.val = if (320000 : Nat) = 1 then 0 else e.val; rw [if_neg (by decide)])

/-- The numbers that rows are read by are the wrapped ends. -/
theorem rowNumbers_apply (v : EndRow) (e : Fin 320000) : rowNumbers v (ix2 e 0) = wrapped (v (ix1 e)) := by
  unfold rowNumbers
  rw [column_apply]
  rfl

/-- A bias, repeated down the rows. -/
theorem bias256_apply (b : Row 256) (e : Fin 320000) (k : Fin 256) :
    broadcastInDim S320000x256 ![0, 1] bcast_S1x256_S320000x256_0_1 (broadcastInDim S1x256 ![1] bcast_S256_S1x256_1 b) (ix2 e k)
      = b (ix1 k) :=
  (broadcastInDim_apply _ bcast_S1x256_S320000x256_0_1 _ (ix2 e k) (ix2 0 k) (fun a => match a with
    | ⟨0, _⟩ => by show 0 = if (1 : Nat) = 1 then 0 else e.val; rw [if_pos rfl]
    | ⟨1, _⟩ => by show k.val = if (256 : Nat) = 1 then 0 else k.val; rw [if_neg (by decide)])).trans
  (broadcastInDim_apply _ bcast_S256_S1x256_1 b (ix2 0 k) (ix1 k) (fun a => match a with
    | ⟨0, _⟩ => by show k.val = if (256 : Nat) = 1 then 0 else k.val; rw [if_neg (by decide)]))

/-- A bias repeated down the rows is the bias at the column. -/
theorem bias128_apply (b : Row 128) (n : Fin 10000) (c : Fin 128) :
    broadcastInDim S10000x128 ![0, 1] bcast_S1x128_S10000x128_0_1 (broadcastInDim S1x128 ![1] bcast_S128_S1x128_1 b) (ix2 n c)
      = b (ix1 c) :=
  (broadcastInDim_apply _ bcast_S1x128_S10000x128_0_1 _ (ix2 n c) (ix2 0 c) (fun a => match a with
    | ⟨0, _⟩ => by show 0 = if (1 : Nat) = 1 then 0 else n.val; rw [if_pos rfl]
    | ⟨1, _⟩ => by show c.val = if (128 : Nat) = 1 then 0 else c.val; rw [if_neg (by decide)])).trans
  (broadcastInDim_apply _ bcast_S128_S1x128_1 b (ix2 0 c) (ix1 c) (fun a => match a with
    | ⟨0, _⟩ => by show c.val = if (128 : Nat) = 1 then 0 else c.val; rw [if_neg (by decide)]))

/-- A number for each node, repeated along its row. -/
theorem spread_apply (v : Row 10000) (n : Fin 10000) (c : Fin 128) :
    broadcastInDim S10000x128 ![0, 1] bcast_S10000x1_S10000x128_0_1 (broadcastInDim S10000x1 ![0] bcast_S10000_S10000x1_0 v) (ix2 n c)
      = v (ix1 n) :=
  (broadcastInDim_apply _ bcast_S10000x1_S10000x128_0_1 _ (ix2 n c) (ix2 n 0) (fun a => match a with
    | ⟨0, _⟩ => by show n.val = if (10000 : Nat) = 1 then 0 else n.val; rw [if_neg (by decide)]
    | ⟨1, _⟩ => by show 0 = if (1 : Nat) = 1 then 0 else c.val; rw [if_pos rfl])).trans
  (broadcastInDim_apply _ bcast_S10000_S10000x1_0 v (ix2 n 0) (ix1 n) (fun a => match a with
    | ⟨0, _⟩ => by show n.val = if (10000 : Nat) = 1 then 0 else n.val; rw [if_neg (by decide)]))

/-! ## The first layer -/

section
variable (x : Tab 10000 128) (v : EndRow) (ea : Tab 320000 16) (w : Tab 144 256) (b : Row 256)

/-- A hidden unit at an edge before the rectifier: the node's share and the edge's. -/
theorem before_apply (e : Fin 320000) (k : Fin 256) :
    (before x v ea w b (ix2 e k) : EReal) = (fromNode x w (node (v (ix1 e))) k + fromEdge ea w e k) + b (ix1 k) := by
  rw [add_assoc]
  unfold before
  refine congrArg₂ (fun a b : EReal => a + b) ?_ (congrArg₂ (fun a b : EReal => a + b) ?_ (bias256_apply b e k))
  · refine (pickRows_apply (by omega) Gen.facts.gather_S10000x256_S320000x1_S320000x256_1_0_n_n_0_1_1256_wf _ _ e k).trans ?_
    have hn : (⟨min (rowNumbers v (ix2 e 0)).toInt.toNat (10000 - 1), by omega⟩ : Fin 10000) = node (v (ix1 e)) :=
      Fin.ext (congrArg (fun v : BitVec 32 => min v.toInt.toNat (10000 - 1)) (rowNumbers_apply v e))
    rw [hn]
    refine (Idealize.ShloMosaic.StackMember.dotGeneral_plain_apply (m := 10000) (k := 128) (n := 256) none x _ _ _).trans ?_
    refine Finset.sum_congr rfl fun q _ => congrArg (fun t : EReal => x (ix2 (node (v (ix1 e))) q) * t) ?_
    exact extractStridedSlice_apply ![0, 0] w slices_S144x256_S128x256_0_0 (ix2 q k) (ix2 (q.castLE (by omega)) k)
      (fun a => match a with
        | ⟨0, _⟩ => (Nat.zero_add _).symm
        | ⟨1, _⟩ => (Nat.zero_add _).symm)
  · refine (Idealize.ShloMosaic.StackMember.dotGeneral_plain_apply (m := 320000) (k := 16) (n := 256) none ea _ _ _).trans ?_
    refine Finset.sum_congr rfl fun q _ => congrArg (fun t : EReal => ea (ix2 e q) * t) ?_
    exact extractStridedSlice_apply ![128, 0] w slices_S144x256_S16x256_128_0 (ix2 q k) (ix2 ⟨128 + q.val, by omega⟩ k)
      (fun a => match a with
        | ⟨0, _⟩ => rfl
        | ⟨1, _⟩ => (Nat.zero_add _).symm)

/-- A hidden unit at an edge. -/
theorem hiddenRows_apply (e : Fin 320000) (k : Fin 256) :
    (hiddenRows x v ea w b (ix2 e k) : EReal)
      = leaky ((fromNode x w (node (v (ix1 e))) k + fromEdge ea w e k) + b (ix1 k)) := by
  rw [← before_apply]
  exact max_slope _

end

/-! ## The sums at a node -/

/-- The edges that land on a node, by their ends' numbers. -/
def at' (v : EndRow) (n : Fin 10000) : Finset (Fin 320000) := Finset.univ.filter fun e => (v (ix1 e)).toInt = (n.val : Int)

/-- The edges added up at a node, read off the column. -/
theorem at'_column (v : EndRow) (n : Fin 10000) :
    Finset.univ.filter (fun e : Fin 320000 =>
      (broadcastInDim S320000x1 ![0] bcast_S320000_S320000x1_0 v (ix2 e 0)).toInt = (n.val : Int)) = at' v n :=
  Finset.filter_congr fun e _ => by rw [column_apply]

/-- By first ends these are the model's. -/
theorem at'_first (ei : Ends) (n : Fin 10000) : at' (firstEnds ei) n = landing ei 0 n :=
  Finset.filter_congr fun e _ => by rw [firstEnds_apply]

/-- By second ends likewise. -/
theorem at'_second (ei : Ends) (n : Fin 10000) : at' (secondEnds ei) n = landing ei 1 n :=
  Finset.filter_congr fun e _ => by rw [secondEnds_apply]

/-- The number of edges at a node. -/
theorem counts_apply (v : EndRow) (n : Fin 10000) : (counts v (ix1 n) : EReal) = ∑ _e ∈ at' v n, 1 := by
  unfold counts
  refine (dropEach_apply Gen.facts.scatter_S10000_S320000x1_S320000_n_0_0_1_wf _ _ _ n).trans ?_
  rw [at'_column]
  refine (congrArg₂ (fun a b : EReal => a + b) Ideal.ofBits_zero_f32 (Finset.sum_congr rfl fun _ _ => Ideal.ofBits_one_f32)).trans ?_
  exact zero_add _

/-- The hidden rows added up at a node, multiplied once, with the bias counted once per edge. -/
theorem gathered_apply (h : FVec Ideal S320000x256 .f32) (v : EndRow) (w' : Tab 256 128) (b' : Row 128) (n : Fin 10000) (c : Fin 128) :
    (gathered h v w' b' (ix2 n c) : EReal)
      = (∑ k : Fin 256, (∑ e ∈ at' v n, (h (ix2 e k) : EReal)) * w' (ix2 k c)) + (∑ _e ∈ at' v n, 1) * b' (ix1 c) := by
  unfold gathered
  refine congrArg₂ (fun a b : EReal => a + b) ?_ (congrArg₂ (fun a b : EReal => a * b)
    ((spread_apply (counts v) n c).trans (counts_apply v n)) (bias128_apply b' n c))
  refine (Idealize.ShloMosaic.StackMember.dotGeneral_plain_apply (m := 10000) (k := 256) (n := 128) none _ w' n c).trans ?_
  refine Finset.sum_congr rfl fun k _ => congrArg (fun t : EReal => t * w' (ix2 k c)) ?_
  refine (dropRows_apply Gen.facts.scatter_S10000x256_S320000x1_S320000x256_1_0_0_1_wf _ _ _ n k).trans ?_
  rw [at'_column]
  exact (congrArg (fun a : EReal => a + _) Ideal.ofBits_zero_f32).trans (zero_add _)

/-- A row divided by the count, or by one where there is none. -/
theorem averaged_apply (y : FVec Ideal S10000x128 .f32) (v : EndRow) (n : Fin 10000) (c : Fin 128) :
    (averaged y v (ix2 n c) : EReal) = Ideal.div (y (ix2 n c)) (max (∑ _e ∈ at' v n, 1) 1) := by
  unfold averaged
  refine (hostDivf_apply _ _ _).trans (congrArg (fun d : EReal => Ideal.div (y (ix2 n c)) d) ?_)
  refine (spread_apply _ n c).trans ?_
  exact congrArg₂ (fun a b : EReal => max a b) (counts_apply v n) Ideal.ofBits_one_f32

/-! ## The equation -/

section
variable (x : Tab 10000 128) (ei : Ends) (ea : Tab 320000 16) (w : Tab 144 256) (b : Row 256) (w' : Tab 256 128) (b' : Row 128)
  (hx : ∀ i, Fin' (x i)) (hea : ∀ i, Fin' (ea i)) (hw : ∀ i, Fin' (w i)) (hw' : ∀ i, Fin' (w' i))
include hx hea hw hw'

/-- Multiplying the sum of the hidden rows is adding up the messages. -/
theorem sums_messages (v : EndRow) (r : Fin 2) (hv : ∀ e, v (ix1 e) = ei (ix2 r e)) (S : Finset (Fin 320000)) (c : Fin 128) :
    (∑ k : Fin 256, (∑ e ∈ S, (hiddenRows x v ea w b (ix2 e k) : EReal)) * w' (ix2 k c)) + (∑ _e ∈ S, 1) * b' (ix1 c)
      = ∑ e ∈ S, message x ei ea w b w' b' r e c := by
  simp only [hiddenRows_apply, hv]
  refine sum_rows S (fun e k => hidden x ei ea w b r e k) (fun k => w' (ix2 k c)) (b' (ix1 c)) (fun k => ?_) (fun k => hw' _)
  refine even_leaky (b (ix1 k)) fun e => Fin'.add ?_ ?_
  · exact Fin'.sum _ fun q _ => (hx _).mul (hw _)
  · exact Fin'.sum _ fun q _ => (hea _).mul (hw _)

/-- The future array holds what each node receives. -/
theorem future_value (n : Fin 10000) (c : Fin 128) :
    (gathered (hiddenRows x (secondEnds ei) ea w b) (firstEnds ei) w' b' (ix2 n c) : EReal)
      = received x ei ea w b w' b' 1 0 n c := by
  rw [gathered_apply, sums_messages x ei ea w b w' b' hx hea hw hw' (secondEnds ei) 1 (secondEnds_apply ei), at'_first]
  rfl

/-- The past array holds each node's mean. -/
theorem past_value (n : Fin 10000) (c : Fin 128) :
    (averaged (gathered (hiddenRows x (firstEnds ei) ea w b) (secondEnds ei) w' b') (secondEnds ei) (ix2 n c) : EReal)
      = mean x ei ea w b w' b' 0 1 n c := by
  rw [averaged_apply, gathered_apply, sums_messages x ei ea w b w' b' hx hea hw hw' (firstEnds ei) 0 (firstEnds_apply ei), at'_second]
  rfl

end

end Cert.KernelHost

end
-- ==== Proof.Finite.lean ====
/-
  What the precondition says: the node rows, the edge rows and the four weight tables of the edge networks are finite.
-/
module

public import proofs.«01_k».proof.Proof.Gen.Pre_finite_inputs
public import proofs.«01_k».proof.Proof.Sums
public import Idealize.ShloMosaic.Lib.ReduceAll

@[expose] public section

noncomputable section

namespace Cert.Finite

open Cert.Edges Cert.Pre_finite_inputs
open Idealize.ShloMosaic

/-- A number whose absolute value is below infinity is finite. -/
theorem finite_of_lt {a : EReal} (h : (FloatOps.cmpf (F := Ideal) (φ := .f32) .olt (FloatOps.absf (F := Ideal) (φ := .f32) a)
    (Ideal.ofBits .f32 0x7F800000#32)) = 1#1) : Fin' a := by
  have htop : Ideal.ofBits .f32 0x7F800000#32 = ⊤ := by simp [Ideal.ofBits, Ideal.ieee]
  rw [htop] at h
  have hlt : max a (-a) < ⊤ := by
    by_contra hn
    have : FloatOps.cmpf (F := Ideal) (φ := .f32) .olt (FloatOps.absf (F := Ideal) (φ := .f32) a) (⊤ : EReal) = 0#1 := by
      simp [Ideal.cmpf_def, Ideal.absf_def, Ideal.cmp, hn]
    rw [this] at h
    exact absurd h (by decide)
  refine ⟨fun e => ?_, fun e => ?_⟩ <;> subst e <;> simp at hlt

/-- A scalar has one index. -/
instance : Subsingleton S_.Idx := ⟨fun _ _ => funext fun a => a.elim0⟩

/-- Both words of a conjunction that is one are one. -/
theorem both {p q : IVec S_ 1} (j : S_.Idx) (h : andi p q j = 1#1) : p j = 1#1 ∧ q j = 1#1 :=
  IntOp.andi_eq_one.1 h

/-- An array whose entries all have absolute values below infinity holds finite entries. -/
theorem entries {s : Shape} (a : FVec Ideal s .f32) (hb : S_.BroadcastsInDim s (![] : Fin 0 → Fin s.rank)) {axes : List (Fin s.rank)}
    (hr : s.ReducesTo axes S_) (hu : 0 < S_.numel) (j : S_.Idx)
    (h : Host.reduce IntOp.andi (cmpf (F := Ideal) .olt (Host.absf a) (broadcastInDim s ![] hb (constant S_ .f32 0x7F800000#32)))
      (constantI S_ 1 1#1) hr hu j = 1#1) (i : s.Idx) : Fin' (a i : EReal) :=
  finite_of_lt (Host.reduce_andi_all _ _ hr hu j h i)

/-- The precondition gives finiteness of each of the six arrays. -/
theorem of_pre (x0 : FVec Ideal S10000x128 .f32) (x1 : IVec S2x320000 32) (x2 : FVec Ideal S320000x16 .f32)
    (x3 : FVec Ideal S1x16 .f32) (x4 : IVec S10000 32) (x5 : FVec Ideal S144x256 .f32) (x6 : FVec Ideal S256 .f32)
    (x7 : FVec Ideal S256x128 .f32) (x8 : FVec Ideal S128 .f32) (x9 : FVec Ideal S144x256 .f32) (x10 : FVec Ideal S256 .f32)
    (x11 : FVec Ideal S256x128 .f32) (x12 : FVec Ideal S128 .f32) (x13 : FVec Ideal S256x256 .f32) (x14 : FVec Ideal S256 .f32)
    (x15 : FVec Ideal S256x128 .f32) (x16 : FVec Ideal S128 .f32) (j : S_.Idx)
    (h : fn (F := Ideal) x0 x1 x2 x3 x4 x5 x6 x7 x8 x9 x10 x11 x12 x13 x14 x15 x16 j = 1#1) :
    (∀ i, Fin' (x0 i : EReal)) ∧ (∀ i, Fin' (x2 i : EReal)) ∧ (∀ i, Fin' (x5 i : EReal)) ∧ (∀ i, Fin' (x7 i : EReal))
      ∧ (∀ i, Fin' (x9 i : EReal)) ∧ (∀ i, Fin' (x11 i : EReal)) := by
  dsimp only [fn, fn_part1] at h
  obtain ⟨h, h11⟩ := both j h
  obtain ⟨h, h9⟩ := both j h
  obtain ⟨h, h7⟩ := both j h
  obtain ⟨h, h5⟩ := both j h
  obtain ⟨h0, h2⟩ := both j h
  exact ⟨entries _ _ _ _ j h0, entries _ _ _ _ j h2, entries _ _ _ _ j h5, entries _ _ _ _ j h7, entries _ _ _ _ j h9, entries _ _ _ _ j h11⟩

end Cert.Finite

end
-- ==== Proof.Equation.lean ====
/-
  The equation: on finite inputs the reference's result is the kernel's result array.
-/
module

public import proofs.«01_k».proof.Proof.RefValue
public import proofs.«01_k».proof.Proof.KernelArray
public import proofs.«01_k».proof.Proof.KernelHostValue
public import proofs.«01_k».proof.Proof.Finite

@[expose] public section

noncomputable section

namespace Cert.Equation

open Cert.Edges Cert.KernelIdeal Cert.KernelIdeal.Gen
open Idealize.ShloMosaic Idealize.ShloMosaic.ValueIdx Idealize.ShloMosaic.TcCoe

variable (m : (ℓ : Loc nD τ sig) → Buf (Elt Ideal) ℓ) (c : Dev nD)

/-- Equal rows and the same tables give equal renewed rows. -/
theorem renewed_congr {p p' f f' : Fin 128 → EReal} (w : Tab 256 256) (b : Row 256) (w' : Tab 256 128) (b' : Row 128)
    (old : EReal) (q : Fin 128) (hp : ∀ k, p k = p' k) (hf : ∀ k, f k = f' k) :
    renewed p f w b w' b' old q = renewed p' f' w b w' b' old q := by
  rw [funext hp, funext hf]

/-- With the six arrays finite, the reference's term of the kernel's arguments is the kernel's result array. -/
theorem result
    (h0 : ∀ i, Fin' (m ((c : Thread nD τ).loc main_arg0) i : EReal)) (h2 : ∀ i, Fin' (m ((c : Thread nD τ).loc main_arg2) i : EReal))
    (h5 : ∀ i, Fin' (m ((c : Thread nD τ).loc main_arg5) i : EReal)) (h7 : ∀ i, Fin' (m ((c : Thread nD τ).loc main_arg7) i : EReal))
    (h9 : ∀ i, Fin' (m ((c : Thread nD τ).loc main_arg9) i : EReal))
    (h11 : ∀ i, Fin' (m ((c : Thread nD τ).loc main_arg11) i : EReal)) :
    Cert.ReferenceIdeal.Read.val_main_v63 (F := Ideal) (m ((c : Thread nD τ).loc main_arg0)) (m ((c : Thread nD τ).loc main_arg1))
        (m ((c : Thread nD τ).loc main_arg2)) (m ((c : Thread nD τ).loc main_arg5)) (m ((c : Thread nD τ).loc main_arg6))
        (m ((c : Thread nD τ).loc main_arg7)) (m ((c : Thread nD τ).loc main_arg8)) (m ((c : Thread nD τ).loc main_arg9))
        (m ((c : Thread nD τ).loc main_arg10)) (m ((c : Thread nD τ).loc main_arg11)) (m ((c : Thread nD τ).loc main_arg12))
        (m ((c : Thread nD τ).loc main_arg13)) (m ((c : Thread nD τ).loc main_arg14)) (m ((c : Thread nD τ).loc main_arg15))
        (m ((c : Thread nD τ).loc main_arg16))
      = (dats m 0 c).arrAt 7 cfg0.N := by
  funext i
  obtain ⟨n, q, rfl⟩ : ∃ n q, i = ix2 n q := ⟨i 0, i 1, eq_ix2 i⟩
  refine (Cert.RefValue.result _ _ _ _ _ _ _ _ _ _ _ _ _ _ _ n q).trans ?_
  refine Eq.trans ?_ (Cert.KernelArray.result m c n q).symm
  refine renewed_congr _ _ _ _ _ _ (fun k => ?_) (fun k => ?_)
  · refine Eq.trans ?_ (congrFun (Cert.KernelHost.past_array m c) (ix2 n k)).symm
    exact (Cert.KernelHost.past_value _ _ _ _ _ _ _ h0 h2 h9 h11 n k).symm
  · refine Eq.trans ?_ (congrFun (Cert.KernelHost.future_array m c) (ix2 n k)).symm
    exact (Cert.KernelHost.future_value _ _ _ _ _ _ _ h0 h2 h5 h7 n k).symm

end Cert.Equation

end
-- ==== Proof.lean ====
/-
  The proof of `Cert.Claim`.

  The three frames are the programs' own runs. The ideal program is the kernel's text unchanged, so nothing is to be shown of
  `preserves`. The value claim: both runs end with named arrays (the kernel's blocks put together, the reference's composed
  term), and on finite inputs these are one array (Proof/Equation.lean). It rests on

    Proof/Sums.lean             sums of extended reals: when a factor may be pulled out of a sum
    Proof/Rows.lean             picking rows of a table by number, and adding rows into places by number
    Proof/Model.lean            the network in plain sums: messages, what a node receives, the new row
    Proof/RefValue.lean         what the reference computes
    Proof/KernelHost.lean       the two arrays the kernel prepares for its blocks
    Proof/KernelHostValue.lean  what these hold
    Proof/KernelBlock.lean      what one block computes
    Proof/KernelArray.lean      what the result array holds
    Proof/Finite.lean           what the precondition says
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite_inputs
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-- The reference has no semaphores, so they all read zero. -/
theorem reference_frame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Kernel and reference end with the same result, from memories that agree on finite arguments. -/
theorem same_result : Cert.algebraic_KernelIdeal_ReferenceIdeal_pre_finite_inputs := by
  intro m g m' g' hpre hagree
  refine ⟨_, Cert.KernelIdeal.Value.run_blocks (F := Ideal) m g, ?_⟩
  refine (θ_run Cert.ReferenceIdeal.defs _ _).mono (fun _ h c => ⟨(h c).1.trans ?_, (h c).2⟩)
    (Cert.ReferenceIdeal.Value.run (F := Ideal) m' g')
  obtain ⟨a0, a1, a2, _, _, a5, a6, a7, a8, a9, a10, a11, a12, a13, a14, a15, a16⟩ := hagree c
  obtain ⟨h0, h2, h5, h7, h9, h11⟩ := Cert.Finite.of_pre _ _ _ _ _ _ _ _ _ _ _ _ _ _ _ _ _ ValueIdx.ix0 (congrFun (hpre c) ValueIdx.ix0)
  rw [Cert.ReferenceIdeal.Read.val_main_v63_eq, a0, a1, a2, a5, a6, a7, a8, a9, a10, a11, a12, a13, a14, a15, a16]
  exact Cert.Equation.result m c h0 h2 h5 h7 h9 h11

/-- All the claims. -/
theorem claim : Cert.Claim :=
  ⟨Cert.Kernel.Gen.facts, Cert.KernelIdeal.Gen.facts, Cert.ReferenceIdeal.Gen.facts, Cert.Pre_finite_inputs.Gen.facts,
    fun m g _ => Cert.Kernel.Gen.frame m g, fun m g _ => Cert.KernelIdeal.Gen.frame m g,
    fun m g _ => Cert.KernelIdeal.Gen.frame m g, reference_frame, fun m g _ => reference_frame m g trivial,
    trivial, same_result⟩

end Cert.Proof

end
